-- ==== Defs.lean ====
def Pre_Attend (m : (ℓ : Loc Cert.Attend.nD Cert.Attend.τ Cert.Attend.sig) → Buf (Elt Bits) ℓ) : Prop :=
  True

def Pre_AttendIdeal (m : (ℓ : Loc Cert.AttendIdeal.nD Cert.AttendIdeal.τ Cert.AttendIdeal.sig) → Buf (Elt Ideal) ℓ) : Prop :=
  True

def Pre_AttendReferenceIdeal (m : (ℓ : Loc Cert.AttendReferenceIdeal.nD Cert.AttendReferenceIdeal.τ Cert.AttendReferenceIdeal.sig) → Buf (Elt Ideal) ℓ) : Prop :=
  True

def Pre_Scores (m : (ℓ : Loc Cert.Scores.nD Cert.Scores.τ Cert.Scores.sig) → Buf (Elt Bits) ℓ) : Prop :=
  True

def Pre_ScoresIdeal (m : (ℓ : Loc Cert.ScoresIdeal.nD Cert.ScoresIdeal.τ Cert.ScoresIdeal.sig) → Buf (Elt Ideal) ℓ) : Prop :=
  True

def Pre_ScoresIdeal_scores_in_range [hPre_scores_in_range : Cert.Pre_scores_in_range.Facts] (m : (ℓ : Loc Cert.ScoresIdeal.nD Cert.ScoresIdeal.τ Cert.ScoresIdeal.sig) → Buf (Elt Ideal) ℓ) : Prop :=
  ∀ c : Dev Cert.ScoresIdeal.nD,
    (Cert.Pre_scores_in_range.fn (F := Ideal) (m ((c.tc : Thread Cert.ScoresIdeal.nD Cert.ScoresIdeal.τ).loc Cert.ScoresIdeal.main_arg0)) (m ((c.tc : Thread Cert.ScoresIdeal.nD Cert.ScoresIdeal.τ).loc Cert.ScoresIdeal.main_arg1)) (m ((c.tc : Thread Cert.ScoresIdeal.nD Cert.ScoresIdeal.τ).loc Cert.ScoresIdeal.main_arg2)) (m ((c.tc : Thread Cert.ScoresIdeal.nD Cert.ScoresIdeal.τ).loc Cert.ScoresIdeal.main_arg3)) (m ((c.tc : Thread Cert.ScoresIdeal.nD Cert.ScoresIdeal.τ).loc Cert.ScoresIdeal.main_arg4))) = (fun _ => 1#1)

def Pre_ScoresReferenceIdeal (m : (ℓ : Loc Cert.ScoresReferenceIdeal.nD Cert.ScoresReferenceIdeal.τ Cert.ScoresReferenceIdeal.sig) → Buf (Elt Ideal) ℓ) : Prop :=
  True

def Pre_ScoresReferenceIdeal_scores_in_range [hPre_scores_in_range : Cert.Pre_scores_in_range.Facts] (m : (ℓ : Loc Cert.ScoresReferenceIdeal.nD Cert.ScoresReferenceIdeal.τ Cert.ScoresReferenceIdeal.sig) → Buf (Elt Ideal) ℓ) : Prop :=
  ∀ c : Dev Cert.ScoresReferenceIdeal.nD,
    (Cert.Pre_scores_in_range.fn (F := Ideal) (m ((c.tc : Thread Cert.ScoresReferenceIdeal.nD Cert.ScoresReferenceIdeal.τ).loc Cert.ScoresReferenceIdeal.main_arg0)) (m ((c.tc : Thread Cert.ScoresReferenceIdeal.nD Cert.ScoresReferenceIdeal.τ).loc Cert.ScoresReferenceIdeal.main_arg1)) (m ((c.tc : Thread Cert.ScoresReferenceIdeal.nD Cert.ScoresReferenceIdeal.τ).loc Cert.ScoresReferenceIdeal.main_arg2)) (m ((c.tc : Thread Cert.ScoresReferenceIdeal.nD Cert.ScoresReferenceIdeal.τ).loc Cert.ScoresReferenceIdeal.main_arg3)) (m ((c.tc : Thread Cert.ScoresReferenceIdeal.nD Cert.ScoresReferenceIdeal.τ).loc Cert.ScoresReferenceIdeal.main_arg4))) = (fun _ => 1#1)

def quiescent_Attend [hAttend : Cert.Attend.Facts] : Prop :=
  ∀ (m : (ℓ : Loc Cert.Attend.nD Cert.Attend.τ Cert.Attend.sig) → Buf (Elt Bits) ℓ) (g : Dev Cert.Attend.nD → PrngReg), Pre_Attend m →
    θ_run (Cert.Attend.defs (F := Bits)) (onTc (τ := Cert.Attend.τ) (Cert.Attend.main (F := Bits))) ⟨m, fun _ => 0, g⟩ (fun r => (∀ c : Dev Cert.Attend.nD,
      r.2.mem ((c.tc : Thread Cert.Attend.nD Cert.Attend.τ).loc Cert.Attend.main_arg0) = m ((c.tc : Thread Cert.Attend.nD Cert.Attend.τ).loc Cert.Attend.main_arg0)
      ∧ r.2.mem ((c.tc : Thread Cert.Attend.nD Cert.Attend.τ).loc Cert.Attend.main_arg1) = m ((c.tc : Thread Cert.Attend.nD Cert.Attend.τ).loc Cert.Attend.main_arg1)
      ∧ r.2.mem ((c.tc : Thread Cert.Attend.nD Cert.Attend.τ).loc Cert.Attend.main_arg2) = m ((c.tc : Thread Cert.Attend.nD Cert.Attend.τ).loc Cert.Attend.main_arg2)
      ∧ r.2.mem ((c.tc : Thread Cert.Attend.nD Cert.Attend.τ).loc Cert.Attend.main_arg3) = m ((c.tc : Thread Cert.Attend.nD Cert.Attend.τ).loc Cert.Attend.main_arg3)
      ∧ r.2.mem ((c.tc : Thread Cert.Attend.nD Cert.Attend.τ).loc Cert.Attend.main_arg4) = m ((c.tc : Thread Cert.Attend.nD Cert.Attend.τ).loc Cert.Attend.main_arg4)
      ∧ r.2.mem ((c.tc : Thread Cert.Attend.nD Cert.Attend.τ).loc Cert.Attend.main_arg5) = m ((c.tc : Thread Cert.Attend.nD Cert.Attend.τ).loc Cert.Attend.main_arg5)
      ∧ r.2.mem ((c.tc : Thread Cert.Attend.nD Cert.Attend.τ).loc Cert.Attend.main_arg6) = m ((c.tc : Thread Cert.Attend.nD Cert.Attend.τ).loc Cert.Attend.main_arg6))
      ∧ r.2.sem = fun _ => 0)

def quiescent_AttendIdeal [hAttendIdeal : Cert.AttendIdeal.Facts] : Prop :=
  ∀ (m : (ℓ : Loc Cert.AttendIdeal.nD Cert.AttendIdeal.τ Cert.AttendIdeal.sig) → Buf (Elt Ideal) ℓ) (g : Dev Cert.AttendIdeal.nD → PrngReg), Pre_AttendIdeal m →
    θ_run (Cert.AttendIdeal.defs (F := Ideal)) (onTc (τ := Cert.AttendIdeal.τ) (Cert.AttendIdeal.main (F := Ideal))) ⟨m, fun _ => 0, g⟩ (fun r => (∀ c : Dev Cert.AttendIdeal.nD,
      r.2.mem ((c.tc : Thread Cert.AttendIdeal.nD Cert.AttendIdeal.τ).loc Cert.AttendIdeal.main_arg0) = m ((c.tc : Thread Cert.AttendIdeal.nD Cert.AttendIdeal.τ).loc Cert.AttendIdeal.main_arg0)
      ∧ r.2.mem ((c.tc : Thread Cert.AttendIdeal.nD Cert.AttendIdeal.τ).loc Cert.AttendIdeal.main_arg1) = m ((c.tc : Thread Cert.AttendIdeal.nD Cert.AttendIdeal.τ).loc Cert.AttendIdeal.main_arg1)
      ∧ r.2.mem ((c.tc : Thread Cert.AttendIdeal.nD Cert.AttendIdeal.τ).loc Cert.AttendIdeal.main_arg2) = m ((c.tc : Thread Cert.AttendIdeal.nD Cert.AttendIdeal.τ).loc Cert.AttendIdeal.main_arg2)
      ∧ r.2.mem ((c.tc : Thread Cert.AttendIdeal.nD Cert.AttendIdeal.τ).loc Cert.AttendIdeal.main_arg3) = m ((c.tc : Thread Cert.AttendIdeal.nD Cert.AttendIdeal.τ).loc Cert.AttendIdeal.main_arg3)
      ∧ r.2.mem ((c.tc : Thread Cert.AttendIdeal.nD Cert.AttendIdeal.τ).loc Cert.AttendIdeal.main_arg4) = m ((c.tc : Thread Cert.AttendIdeal.nD Cert.AttendIdeal.τ).loc Cert.AttendIdeal.main_arg4)
      ∧ r.2.mem ((c.tc : Thread Cert.AttendIdeal.nD Cert.AttendIdeal.τ).loc Cert.AttendIdeal.main_arg5) = m ((c.tc : Thread Cert.AttendIdeal.nD Cert.AttendIdeal.τ).loc Cert.AttendIdeal.main_arg5)
      ∧ r.2.mem ((c.tc : Thread Cert.AttendIdeal.nD Cert.AttendIdeal.τ).loc Cert.AttendIdeal.main_arg6) = m ((c.tc : Thread Cert.AttendIdeal.nD Cert.AttendIdeal.τ).loc Cert.AttendIdeal.main_arg6))
      ∧ r.2.sem = fun _ => 0)

def quiescent_AttendReferenceIdeal [hAttendReferenceIdeal : Cert.AttendReferenceIdeal.Facts] : Prop :=
  ∀ (m : (ℓ : Loc Cert.AttendReferenceIdeal.nD Cert.AttendReferenceIdeal.τ Cert.AttendReferenceIdeal.sig) → Buf (Elt Ideal) ℓ) (g : Dev Cert.AttendReferenceIdeal.nD → PrngReg), Pre_AttendReferenceIdeal m →
    θ_run (Cert.AttendReferenceIdeal.defs (F := Ideal)) (onTc (τ := Cert.AttendReferenceIdeal.τ) (Cert.AttendReferenceIdeal.main (F := Ideal))) ⟨m, fun _ => 0, g⟩ (fun r => (∀ c : Dev Cert.AttendReferenceIdeal.nD,
      r.2.mem ((c.tc : Thread Cert.AttendReferenceIdeal.nD Cert.AttendReferenceIdeal.τ).loc Cert.AttendReferenceIdeal.main_arg0) = m ((c.tc : Thread Cert.AttendReferenceIdeal.nD Cert.AttendReferenceIdeal.τ).loc Cert.AttendReferenceIdeal.main_arg0)
      ∧ r.2.mem ((c.tc : Thread Cert.AttendReferenceIdeal.nD Cert.AttendReferenceIdeal.τ).loc Cert.AttendReferenceIdeal.main_arg1) = m ((c.tc : Thread Cert.AttendReferenceIdeal.nD Cert.AttendReferenceIdeal.τ).loc Cert.AttendReferenceIdeal.main_arg1)
      ∧ r.2.mem ((c.tc : Thread Cert.AttendReferenceIdeal.nD Cert.AttendReferenceIdeal.τ).loc Cert.AttendReferenceIdeal.main_arg2) = m ((c.tc : Thread Cert.AttendReferenceIdeal.nD Cert.AttendReferenceIdeal.τ).loc Cert.AttendReferenceIdeal.main_arg2)
      ∧ r.2.mem ((c.tc : Thread Cert.AttendReferenceIdeal.nD Cert.AttendReferenceIdeal.τ).loc Cert.AttendReferenceIdeal.main_arg3) = m ((c.tc : Thread Cert.AttendReferenceIdeal.nD Cert.AttendReferenceIdeal.τ).loc Cert.AttendReferenceIdeal.main_arg3)
      ∧ r.2.mem ((c.tc : Thread Cert.AttendReferenceIdeal.nD Cert.AttendReferenceIdeal.τ).loc Cert.AttendReferenceIdeal.main_arg4) = m ((c.tc : Thread Cert.AttendReferenceIdeal.nD Cert.AttendReferenceIdeal.τ).loc Cert.AttendReferenceIdeal.main_arg4)
      ∧ r.2.mem ((c.tc : Thread Cert.AttendReferenceIdeal.nD Cert.AttendReferenceIdeal.τ).loc Cert.AttendReferenceIdeal.main_arg5) = m ((c.tc : Thread Cert.AttendReferenceIdeal.nD Cert.AttendReferenceIdeal.τ).loc Cert.AttendReferenceIdeal.main_arg5)
      ∧ r.2.mem ((c.tc : Thread Cert.AttendReferenceIdeal.nD Cert.AttendReferenceIdeal.τ).loc Cert.AttendReferenceIdeal.main_arg6) = m ((c.tc : Thread Cert.AttendReferenceIdeal.nD Cert.AttendReferenceIdeal.τ).loc Cert.AttendReferenceIdeal.main_arg6))
      ∧ r.2.sem = fun _ => 0)

def quiescent_Scores [hScores : Cert.Scores.Facts] : Prop :=
  ∀ (m : (ℓ : Loc Cert.Scores.nD Cert.Scores.τ Cert.Scores.sig) → Buf (Elt Bits) ℓ) (g : Dev Cert.Scores.nD → PrngReg), Pre_Scores m →
    θ_run (Cert.Scores.defs (F := Bits)) (onTc (τ := Cert.Scores.τ) (Cert.Scores.main (F := Bits))) ⟨m, fun _ => 0, g⟩ (fun r => (∀ c : Dev Cert.Scores.nD,
      r.2.mem ((c.tc : Thread Cert.Scores.nD Cert.Scores.τ).loc Cert.Scores.main_arg0) = m ((c.tc : Thread Cert.Scores.nD Cert.Scores.τ).loc Cert.Scores.main_arg0)
      ∧ r.2.mem ((c.tc : Thread Cert.Scores.nD Cert.Scores.τ).loc Cert.Scores.main_arg1) = m ((c.tc : Thread Cert.Scores.nD Cert.Scores.τ).loc Cert.Scores.main_arg1)
      ∧ r.2.mem ((c.tc : Thread Cert.Scores.nD Cert.Scores.τ).loc Cert.Scores.main_arg2) = m ((c.tc : Thread Cert.Scores.nD Cert.Scores.τ).loc Cert.Scores.main_arg2)
      ∧ r.2.mem ((c.tc : Thread Cert.Scores.nD Cert.Scores.τ).loc Cert.Scores.main_arg3) = m ((c.tc : Thread Cert.Scores.nD Cert.Scores.τ).loc Cert.Scores.main_arg3)
      ∧ r.2.mem ((c.tc : Thread Cert.Scores.nD Cert.Scores.τ).loc Cert.Scores.main_arg4) = m ((c.tc : Thread Cert.Scores.nD Cert.Scores.τ).loc Cert.Scores.main_arg4))
      ∧ r.2.sem = fun _ => 0)

def quiescent_ScoresIdeal [hScoresIdeal : Cert.ScoresIdeal.Facts] : Prop :=
  ∀ (m : (ℓ : Loc Cert.ScoresIdeal.nD Cert.ScoresIdeal.τ Cert.ScoresIdeal.sig) → Buf (Elt Ideal) ℓ) (g : Dev Cert.ScoresIdeal.nD → PrngReg), Pre_ScoresIdeal m →
    θ_run (Cert.ScoresIdeal.defs (F := Ideal)) (onTc (τ := Cert.ScoresIdeal.τ) (Cert.ScoresIdeal.main (F := Ideal))) ⟨m, fun _ => 0, g⟩ (fun r => (∀ c : Dev Cert.ScoresIdeal.nD,
      r.2.mem ((c.tc : Thread Cert.ScoresIdeal.nD Cert.ScoresIdeal.τ).loc Cert.ScoresIdeal.main_arg0) = m ((c.tc : Thread Cert.ScoresIdeal.nD Cert.ScoresIdeal.τ).loc Cert.ScoresIdeal.main_arg0)
      ∧ r.2.mem ((c.tc : Thread Cert.ScoresIdeal.nD Cert.ScoresIdeal.τ).loc Cert.ScoresIdeal.main_arg1) = m ((c.tc : Thread Cert.ScoresIdeal.nD Cert.ScoresIdeal.τ).loc Cert.ScoresIdeal.main_arg1)
      ∧ r.2.mem ((c.tc : Thread Cert.ScoresIdeal.nD Cert.ScoresIdeal.τ).loc Cert.ScoresIdeal.main_arg2) = m ((c.tc : Thread Cert.ScoresIdeal.nD Cert.ScoresIdeal.τ).loc Cert.ScoresIdeal.main_arg2)
      ∧ r.2.mem ((c.tc : Thread Cert.ScoresIdeal.nD Cert.ScoresIdeal.τ).loc Cert.ScoresIdeal.main_arg3) = m ((c.tc : Thread Cert.ScoresIdeal.nD Cert.ScoresIdeal.τ).loc Cert.ScoresIdeal.main_arg3)
      ∧ r.2.mem ((c.tc : Thread Cert.ScoresIdeal.nD Cert.ScoresIdeal.τ).loc Cert.ScoresIdeal.main_arg4) = m ((c.tc : Thread Cert.ScoresIdeal.nD Cert.ScoresIdeal.τ).loc Cert.ScoresIdeal.main_arg4))
      ∧ r.2.sem = fun _ => 0)

def quiescent_ScoresIdeal_pre_scores_in_range [hScoresIdeal : Cert.ScoresIdeal.Facts] [hPre_scores_in_range : Cert.Pre_scores_in_range.Facts] : Prop :=
  ∀ (m : (ℓ : Loc Cert.ScoresIdeal.nD Cert.ScoresIdeal.τ Cert.ScoresIdeal.sig) → Buf (Elt Ideal) ℓ) (g : Dev Cert.ScoresIdeal.nD → PrngReg), Pre_ScoresIdeal_scores_in_range m →
    θ_run (Cert.ScoresIdeal.defs (F := Ideal)) (onTc (τ := Cert.ScoresIdeal.τ) (Cert.ScoresIdeal.main (F := Ideal))) ⟨m, fun _ => 0, g⟩ (fun r => (∀ c : Dev Cert.ScoresIdeal.nD,
      r.2.mem ((c.tc : Thread Cert.ScoresIdeal.nD Cert.ScoresIdeal.τ).loc Cert.ScoresIdeal.main_arg0) = m ((c.tc : Thread Cert.ScoresIdeal.nD Cert.ScoresIdeal.τ).loc Cert.ScoresIdeal.main_arg0)
      ∧ r.2.mem ((c.tc : Thread Cert.ScoresIdeal.nD Cert.ScoresIdeal.τ).loc Cert.ScoresIdeal.main_arg1) = m ((c.tc : Thread Cert.ScoresIdeal.nD Cert.ScoresIdeal.τ).loc Cert.ScoresIdeal.main_arg1)
      ∧ r.2.mem ((c.tc : Thread Cert.ScoresIdeal.nD Cert.ScoresIdeal.τ).loc Cert.ScoresIdeal.main_arg2) = m ((c.tc : Thread Cert.ScoresIdeal.nD Cert.ScoresIdeal.τ).loc Cert.ScoresIdeal.main_arg2)
      ∧ r.2.mem ((c.tc : Thread Cert.ScoresIdeal.nD Cert.ScoresIdeal.τ).loc Cert.ScoresIdeal.main_arg3) = m ((c.tc : Thread Cert.ScoresIdeal.nD Cert.ScoresIdeal.τ).loc Cert.ScoresIdeal.main_arg3)
      ∧ r.2.mem ((c.tc : Thread Cert.ScoresIdeal.nD Cert.ScoresIdeal.τ).loc Cert.ScoresIdeal.main_arg4) = m ((c.tc : Thread Cert.ScoresIdeal.nD Cert.ScoresIdeal.τ).loc Cert.ScoresIdeal.main_arg4))
      ∧ r.2.sem = fun _ => 0)

def quiescent_ScoresReferenceIdeal [hScoresReferenceIdeal : Cert.ScoresReferenceIdeal.Facts] : Prop :=
  ∀ (m : (ℓ : Loc Cert.ScoresReferenceIdeal.nD Cert.ScoresReferenceIdeal.τ Cert.ScoresReferenceIdeal.sig) → Buf (Elt Ideal) ℓ) (g : Dev Cert.ScoresReferenceIdeal.nD → PrngReg), Pre_ScoresReferenceIdeal m →
    θ_run (Cert.ScoresReferenceIdeal.defs (F := Ideal)) (onTc (τ := Cert.ScoresReferenceIdeal.τ) (Cert.ScoresReferenceIdeal.main (F := Ideal))) ⟨m, fun _ => 0, g⟩ (fun r => (∀ c : Dev Cert.ScoresReferenceIdeal.nD,
      r.2.mem ((c.tc : Thread Cert.ScoresReferenceIdeal.nD Cert.ScoresReferenceIdeal.τ).loc Cert.ScoresReferenceIdeal.main_arg0) = m ((c.tc : Thread Cert.ScoresReferenceIdeal.nD Cert.ScoresReferenceIdeal.τ).loc Cert.ScoresReferenceIdeal.main_arg0)
      ∧ r.2.mem ((c.tc : Thread Cert.ScoresReferenceIdeal.nD Cert.ScoresReferenceIdeal.τ).loc Cert.ScoresReferenceIdeal.main_arg1) = m ((c.tc : Thread Cert.ScoresReferenceIdeal.nD Cert.ScoresReferenceIdeal.τ).loc Cert.ScoresReferenceIdeal.main_arg1)
      ∧ r.2.mem ((c.tc : Thread Cert.ScoresReferenceIdeal.nD Cert.ScoresReferenceIdeal.τ).loc Cert.ScoresReferenceIdeal.main_arg2) = m ((c.tc : Thread Cert.ScoresReferenceIdeal.nD Cert.ScoresReferenceIdeal.τ).loc Cert.ScoresReferenceIdeal.main_arg2)
      ∧ r.2.mem ((c.tc : Thread Cert.ScoresReferenceIdeal.nD Cert.ScoresReferenceIdeal.τ).loc Cert.ScoresReferenceIdeal.main_arg3) = m ((c.tc : Thread Cert.ScoresReferenceIdeal.nD Cert.ScoresReferenceIdeal.τ).loc Cert.ScoresReferenceIdeal.main_arg3)
      ∧ r.2.mem ((c.tc : Thread Cert.ScoresReferenceIdeal.nD Cert.ScoresReferenceIdeal.τ).loc Cert.ScoresReferenceIdeal.main_arg4) = m ((c.tc : Thread Cert.ScoresReferenceIdeal.nD Cert.ScoresReferenceIdeal.τ).loc Cert.ScoresReferenceIdeal.main_arg4))
      ∧ r.2.sem = fun _ => 0)

def quiescent_ScoresReferenceIdeal_pre_scores_in_range [hScoresReferenceIdeal : Cert.ScoresReferenceIdeal.Facts] [hPre_scores_in_range : Cert.Pre_scores_in_range.Facts] : Prop :=
  ∀ (m : (ℓ : Loc Cert.ScoresReferenceIdeal.nD Cert.ScoresReferenceIdeal.τ Cert.ScoresReferenceIdeal.sig) → Buf (Elt Ideal) ℓ) (g : Dev Cert.ScoresReferenceIdeal.nD → PrngReg), Pre_ScoresReferenceIdeal_scores_in_range m →
    θ_run (Cert.ScoresReferenceIdeal.defs (F := Ideal)) (onTc (τ := Cert.ScoresReferenceIdeal.τ) (Cert.ScoresReferenceIdeal.main (F := Ideal))) ⟨m, fun _ => 0, g⟩ (fun r => (∀ c : Dev Cert.ScoresReferenceIdeal.nD,
      r.2.mem ((c.tc : Thread Cert.ScoresReferenceIdeal.nD Cert.ScoresReferenceIdeal.τ).loc Cert.ScoresReferenceIdeal.main_arg0) = m ((c.tc : Thread Cert.ScoresReferenceIdeal.nD Cert.ScoresReferenceIdeal.τ).loc Cert.ScoresReferenceIdeal.main_arg0)
      ∧ r.2.mem ((c.tc : Thread Cert.ScoresReferenceIdeal.nD Cert.ScoresReferenceIdeal.τ).loc Cert.ScoresReferenceIdeal.main_arg1) = m ((c.tc : Thread Cert.ScoresReferenceIdeal.nD Cert.ScoresReferenceIdeal.τ).loc Cert.ScoresReferenceIdeal.main_arg1)
      ∧ r.2.mem ((c.tc : Thread Cert.ScoresReferenceIdeal.nD Cert.ScoresReferenceIdeal.τ).loc Cert.ScoresReferenceIdeal.main_arg2) = m ((c.tc : Thread Cert.ScoresReferenceIdeal.nD Cert.ScoresReferenceIdeal.τ).loc Cert.ScoresReferenceIdeal.main_arg2)
      ∧ r.2.mem ((c.tc : Thread Cert.ScoresReferenceIdeal.nD Cert.ScoresReferenceIdeal.τ).loc Cert.ScoresReferenceIdeal.main_arg3) = m ((c.tc : Thread Cert.ScoresReferenceIdeal.nD Cert.ScoresReferenceIdeal.τ).loc Cert.ScoresReferenceIdeal.main_arg3)
      ∧ r.2.mem ((c.tc : Thread Cert.ScoresReferenceIdeal.nD Cert.ScoresReferenceIdeal.τ).loc Cert.ScoresReferenceIdeal.main_arg4) = m ((c.tc : Thread Cert.ScoresReferenceIdeal.nD Cert.ScoresReferenceIdeal.τ).loc Cert.ScoresReferenceIdeal.main_arg4))
      ∧ r.2.sem = fun _ => 0)

def preserves_Attend_AttendIdeal : Prop :=
  True

def algebraic_AttendIdeal_AttendReferenceIdeal [hAttendIdeal : Cert.AttendIdeal.Facts] [hAttendReferenceIdeal : Cert.AttendReferenceIdeal.Facts] : Prop :=
  ∀ (m : (ℓ : Loc Cert.AttendIdeal.nD Cert.AttendIdeal.τ Cert.AttendIdeal.sig) → Buf (Elt Ideal) ℓ) (g : Dev Cert.AttendIdeal.nD → PrngReg)
    (m' : (ℓ : Loc Cert.AttendReferenceIdeal.nD Cert.AttendReferenceIdeal.τ Cert.AttendReferenceIdeal.sig) → Buf (Elt Ideal) ℓ) (g' : Dev Cert.AttendReferenceIdeal.nD → PrngReg), Pre_AttendIdeal m →
    (∀ c : Dev Cert.AttendIdeal.nD,
      m' ((c.tc : Thread Cert.AttendReferenceIdeal.nD Cert.AttendReferenceIdeal.τ).loc Cert.AttendReferenceIdeal.main_arg0) = m ((c.tc : Thread Cert.AttendIdeal.nD Cert.AttendIdeal.τ).loc Cert.AttendIdeal.main_arg0)
      ∧ m' ((c.tc : Thread Cert.AttendReferenceIdeal.nD Cert.AttendReferenceIdeal.τ).loc Cert.AttendReferenceIdeal.main_arg1) = m ((c.tc : Thread Cert.AttendIdeal.nD Cert.AttendIdeal.τ).loc Cert.AttendIdeal.main_arg1)
      ∧ m' ((c.tc : Thread Cert.AttendReferenceIdeal.nD Cert.AttendReferenceIdeal.τ).loc Cert.AttendReferenceIdeal.main_arg2) = m ((c.tc : Thread Cert.AttendIdeal.nD Cert.AttendIdeal.τ).loc Cert.AttendIdeal.main_arg2)
      ∧ m' ((c.tc : Thread Cert.AttendReferenceIdeal.nD Cert.AttendReferenceIdeal.τ).loc Cert.AttendReferenceIdeal.main_arg3) = m ((c.tc : Thread Cert.AttendIdeal.nD Cert.AttendIdeal.τ).loc Cert.AttendIdeal.main_arg3)
      ∧ m' ((c.tc : Thread Cert.AttendReferenceIdeal.nD Cert.AttendReferenceIdeal.τ).loc Cert.AttendReferenceIdeal.main_arg4) = m ((c.tc : Thread Cert.AttendIdeal.nD Cert.AttendIdeal.τ).loc Cert.AttendIdeal.main_arg4)
      ∧ m' ((c.tc : Thread Cert.AttendReferenceIdeal.nD Cert.AttendReferenceIdeal.τ).loc Cert.AttendReferenceIdeal.main_arg5) = m ((c.tc : Thread Cert.AttendIdeal.nD Cert.AttendIdeal.τ).loc Cert.AttendIdeal.main_arg5)
      ∧ m' ((c.tc : Thread Cert.AttendReferenceIdeal.nD Cert.AttendReferenceIdeal.τ).loc Cert.AttendReferenceIdeal.main_arg6) = m ((c.tc : Thread Cert.AttendIdeal.nD Cert.AttendIdeal.τ).loc Cert.AttendIdeal.main_arg6)) →
    ∃ (v0 : (c : Dev Cert.AttendIdeal.nD) → Buf (Elt Ideal) ((c.tc : Thread Cert.AttendIdeal.nD Cert.AttendIdeal.τ).loc Cert.AttendIdeal.main_v3_0)) (v1 : (c : Dev Cert.AttendIdeal.nD) → Buf (Elt Ideal) ((c.tc : Thread Cert.AttendIdeal.nD Cert.AttendIdeal.τ).loc Cert.AttendIdeal.main_v3_1)),
      θ_run (Cert.AttendIdeal.defs (F := Ideal)) (onTc (τ := Cert.AttendIdeal.τ) (Cert.AttendIdeal.main (F := Ideal))) ⟨m, fun _ => 0, g⟩ (fun r => ∀ c : Dev Cert.AttendIdeal.nD,
          r.2.mem ((c.tc : Thread Cert.AttendIdeal.nD Cert.AttendIdeal.τ).loc Cert.AttendIdeal.main_v3_0) = v0 c
          ∧ r.2.mem ((c.tc : Thread Cert.AttendIdeal.nD Cert.AttendIdeal.τ).loc Cert.AttendIdeal.main_v3_1) = v1 c
          ∧ r.2.mem ((c.tc : Thread Cert.AttendIdeal.nD Cert.AttendIdeal.τ).loc Cert.AttendIdeal.main_arg0) = m ((c.tc : Thread Cert.AttendIdeal.nD Cert.AttendIdeal.τ).loc Cert.AttendIdeal.main_arg0)
          ∧ r.2.mem ((c.tc : Thread Cert.AttendIdeal.nD Cert.AttendIdeal.τ).loc Cert.AttendIdeal.main_arg1) = m ((c.tc : Thread Cert.AttendIdeal.nD Cert.AttendIdeal.τ).loc Cert.AttendIdeal.main_arg1)
          ∧ r.2.mem ((c.tc : Thread Cert.AttendIdeal.nD Cert.AttendIdeal.τ).loc Cert.AttendIdeal.main_arg2) = m ((c.tc : Thread Cert.AttendIdeal.nD Cert.AttendIdeal.τ).loc Cert.AttendIdeal.main_arg2)
          ∧ r.2.mem ((c.tc : Thread Cert.AttendIdeal.nD Cert.AttendIdeal.τ).loc Cert.AttendIdeal.main_arg3) = m ((c.tc : Thread Cert.AttendIdeal.nD Cert.AttendIdeal.τ).loc Cert.AttendIdeal.main_arg3)
          ∧ r.2.mem ((c.tc : Thread Cert.AttendIdeal.nD Cert.AttendIdeal.τ).loc Cert.AttendIdeal.main_arg4) = m ((c.tc : Thread Cert.AttendIdeal.nD Cert.AttendIdeal.τ).loc Cert.AttendIdeal.main_arg4)
          ∧ r.2.mem ((c.tc : Thread Cert.AttendIdeal.nD Cert.AttendIdeal.τ).loc Cert.AttendIdeal.main_arg5) = m ((c.tc : Thread Cert.AttendIdeal.nD Cert.AttendIdeal.τ).loc Cert.AttendIdeal.main_arg5)
          ∧ r.2.mem ((c.tc : Thread Cert.AttendIdeal.nD Cert.AttendIdeal.τ).loc Cert.AttendIdeal.main_arg6) = m ((c.tc : Thread Cert.AttendIdeal.nD Cert.AttendIdeal.τ).loc Cert.AttendIdeal.main_arg6))
      ∧ θ_run (Cert.AttendReferenceIdeal.defs (F := Ideal)) (onTc (τ := Cert.AttendReferenceIdeal.τ) (Cert.AttendReferenceIdeal.main (F := Ideal))) ⟨m', fun _ => 0, g'⟩ (fun r => ∀ c : Dev Cert.AttendReferenceIdeal.nD,
          r.2.mem ((c.tc : Thread Cert.AttendReferenceIdeal.nD Cert.AttendReferenceIdeal.τ).loc Cert.AttendReferenceIdeal.main_v3_0) = v0 c
          ∧ r.2.mem ((c.tc : Thread Cert.AttendReferenceIdeal.nD Cert.AttendReferenceIdeal.τ).loc Cert.AttendReferenceIdeal.main_v3_1) = v1 c
          ∧ r.2.mem ((c.tc : Thread Cert.AttendReferenceIdeal.nD Cert.AttendReferenceIdeal.τ).loc Cert.AttendReferenceIdeal.main_arg0) = m' ((c.tc : Thread Cert.AttendReferenceIdeal.nD Cert.AttendReferenceIdeal.τ).loc Cert.AttendReferenceIdeal.main_arg0)
          ∧ r.2.mem ((c.tc : Thread Cert.AttendReferenceIdeal.nD Cert.AttendReferenceIdeal.τ).loc Cert.AttendReferenceIdeal.main_arg1) = m' ((c.tc : Thread Cert.AttendReferenceIdeal.nD Cert.AttendReferenceIdeal.τ).loc Cert.AttendReferenceIdeal.main_arg1)
          ∧ r.2.mem ((c.tc : Thread Cert.AttendReferenceIdeal.nD Cert.AttendReferenceIdeal.τ).loc Cert.AttendReferenceIdeal.main_arg2) = m' ((c.tc : Thread Cert.AttendReferenceIdeal.nD Cert.AttendReferenceIdeal.τ).loc Cert.AttendReferenceIdeal.main_arg2)
          ∧ r.2.mem ((c.tc : Thread Cert.AttendReferenceIdeal.nD Cert.AttendReferenceIdeal.τ).loc Cert.AttendReferenceIdeal.main_arg3) = m' ((c.tc : Thread Cert.AttendReferenceIdeal.nD Cert.AttendReferenceIdeal.τ).loc Cert.AttendReferenceIdeal.main_arg3)
          ∧ r.2.mem ((c.tc : Thread Cert.AttendReferenceIdeal.nD Cert.AttendReferenceIdeal.τ).loc Cert.AttendReferenceIdeal.main_arg4) = m' ((c.tc : Thread Cert.AttendReferenceIdeal.nD Cert.AttendReferenceIdeal.τ).loc Cert.AttendReferenceIdeal.main_arg4)
          ∧ r.2.mem ((c.tc : Thread Cert.AttendReferenceIdeal.nD Cert.AttendReferenceIdeal.τ).loc Cert.AttendReferenceIdeal.main_arg5) = m' ((c.tc : Thread Cert.AttendReferenceIdeal.nD Cert.AttendReferenceIdeal.τ).loc Cert.AttendReferenceIdeal.main_arg5)
          ∧ r.2.mem ((c.tc : Thread Cert.AttendReferenceIdeal.nD Cert.AttendReferenceIdeal.τ).loc Cert.AttendReferenceIdeal.main_arg6) = m' ((c.tc : Thread Cert.AttendReferenceIdeal.nD Cert.AttendReferenceIdeal.τ).loc Cert.AttendReferenceIdeal.main_arg6))

def preserves_Scores_ScoresIdeal : Prop :=
  True

def algebraic_ScoresIdeal_ScoresReferenceIdeal_pre_scores_in_range [hScoresIdeal : Cert.ScoresIdeal.Facts] [hScoresReferenceIdeal : Cert.ScoresReferenceIdeal.Facts] [hPre_scores_in_range : Cert.Pre_scores_in_range.Facts] : Prop :=
  ∀ (m : (ℓ : Loc Cert.ScoresIdeal.nD Cert.ScoresIdeal.τ Cert.ScoresIdeal.sig) → Buf (Elt Ideal) ℓ) (g : Dev Cert.ScoresIdeal.nD → PrngReg)
    (m' : (ℓ : Loc Cert.ScoresReferenceIdeal.nD Cert.ScoresReferenceIdeal.τ Cert.ScoresReferenceIdeal.sig) → Buf (Elt Ideal) ℓ) (g' : Dev Cert.ScoresReferenceIdeal.nD → PrngReg), Pre_ScoresIdeal_scores_in_range m →
    (∀ c : Dev Cert.ScoresIdeal.nD,
      m' ((c.tc : Thread Cert.ScoresReferenceIdeal.nD Cert.ScoresReferenceIdeal.τ).loc Cert.ScoresReferenceIdeal.main_arg0) = m ((c.tc : Thread Cert.ScoresIdeal.nD Cert.ScoresIdeal.τ).loc Cert.ScoresIdeal.main_arg0)
      ∧ m' ((c.tc : Thread Cert.ScoresReferenceIdeal.nD Cert.ScoresReferenceIdeal.τ).loc Cert.ScoresReferenceIdeal.main_arg1) = m ((c.tc : Thread Cert.ScoresIdeal.nD Cert.ScoresIdeal.τ).loc Cert.ScoresIdeal.main_arg1)
      ∧ m' ((c.tc : Thread Cert.ScoresReferenceIdeal.nD Cert.ScoresReferenceIdeal.τ).loc Cert.ScoresReferenceIdeal.main_arg2) = m ((c.tc : Thread Cert.ScoresIdeal.nD Cert.ScoresIdeal.τ).loc Cert.ScoresIdeal.main_arg2)
      ∧ m' ((c.tc : Thread Cert.ScoresReferenceIdeal.nD Cert.ScoresReferenceIdeal.τ).loc Cert.ScoresReferenceIdeal.main_arg3) = m ((c.tc : Thread Cert.ScoresIdeal.nD Cert.ScoresIdeal.τ).loc Cert.ScoresIdeal.main_arg3)
      ∧ m' ((c.tc : Thread Cert.ScoresReferenceIdeal.nD Cert.ScoresReferenceIdeal.τ).loc Cert.ScoresReferenceIdeal.main_arg4) = m ((c.tc : Thread Cert.ScoresIdeal.nD Cert.ScoresIdeal.τ).loc Cert.ScoresIdeal.main_arg4)) →
    ∃ (v0 : (c : Dev Cert.ScoresIdeal.nD) → Buf (Elt Ideal) ((c.tc : Thread Cert.ScoresIdeal.nD Cert.ScoresIdeal.τ).loc Cert.ScoresIdeal.main_v4)),
      θ_run (Cert.ScoresIdeal.defs (F := Ideal)) (onTc (τ := Cert.ScoresIdeal.τ) (Cert.ScoresIdeal.main (F := Ideal))) ⟨m, fun _ => 0, g⟩ (fun r => ∀ c : Dev Cert.ScoresIdeal.nD,
          r.2.mem ((c.tc : Thread Cert.ScoresIdeal.nD Cert.ScoresIdeal.τ).loc Cert.ScoresIdeal.main_v4) = v0 c
          ∧ r.2.mem ((c.tc : Thread Cert.ScoresIdeal.nD Cert.ScoresIdeal.τ).loc Cert.ScoresIdeal.main_arg0) = m ((c.tc : Thread Cert.ScoresIdeal.nD Cert.ScoresIdeal.τ).loc Cert.ScoresIdeal.main_arg0)
          ∧ r.2.mem ((c.tc : Thread Cert.ScoresIdeal.nD Cert.ScoresIdeal.τ).loc Cert.ScoresIdeal.main_arg1) = m ((c.tc : Thread Cert.ScoresIdeal.nD Cert.ScoresIdeal.τ).loc Cert.ScoresIdeal.main_arg1)
          ∧ r.2.mem ((c.tc : Thread Cert.ScoresIdeal.nD Cert.ScoresIdeal.τ).loc Cert.ScoresIdeal.main_arg2) = m ((c.tc : Thread Cert.ScoresIdeal.nD Cert.ScoresIdeal.τ).loc Cert.ScoresIdeal.main_arg2)
          ∧ r.2.mem ((c.tc : Thread Cert.ScoresIdeal.nD Cert.ScoresIdeal.τ).loc Cert.ScoresIdeal.main_arg3) = m ((c.tc : Thread Cert.ScoresIdeal.nD Cert.ScoresIdeal.τ).loc Cert.ScoresIdeal.main_arg3)
          ∧ r.2.mem ((c.tc : Thread Cert.ScoresIdeal.nD Cert.ScoresIdeal.τ).loc Cert.ScoresIdeal.main_arg4) = m ((c.tc : Thread Cert.ScoresIdeal.nD Cert.ScoresIdeal.τ).loc Cert.ScoresIdeal.main_arg4))
      ∧ θ_run (Cert.ScoresReferenceIdeal.defs (F := Ideal)) (onTc (τ := Cert.ScoresReferenceIdeal.τ) (Cert.ScoresReferenceIdeal.main (F := Ideal))) ⟨m', fun _ => 0, g'⟩ (fun r => ∀ c : Dev Cert.ScoresReferenceIdeal.nD,
          r.2.mem ((c.tc : Thread Cert.ScoresReferenceIdeal.nD Cert.ScoresReferenceIdeal.τ).loc Cert.ScoresReferenceIdeal.main_v65) = v0 c
          ∧ r.2.mem ((c.tc : Thread Cert.ScoresReferenceIdeal.nD Cert.ScoresReferenceIdeal.τ).loc Cert.ScoresReferenceIdeal.main_arg0) = m' ((c.tc : Thread Cert.ScoresReferenceIdeal.nD Cert.ScoresReferenceIdeal.τ).loc Cert.ScoresReferenceIdeal.main_arg0)
          ∧ r.2.mem ((c.tc : Thread Cert.ScoresReferenceIdeal.nD Cert.ScoresReferenceIdeal.τ).loc Cert.ScoresReferenceIdeal.main_arg1) = m' ((c.tc : Thread Cert.ScoresReferenceIdeal.nD Cert.ScoresReferenceIdeal.τ).loc Cert.ScoresReferenceIdeal.main_arg1)
          ∧ r.2.mem ((c.tc : Thread Cert.ScoresReferenceIdeal.nD Cert.ScoresReferenceIdeal.τ).loc Cert.ScoresReferenceIdeal.main_arg2) = m' ((c.tc : Thread Cert.ScoresReferenceIdeal.nD Cert.ScoresReferenceIdeal.τ).loc Cert.ScoresReferenceIdeal.main_arg2)
          ∧ r.2.mem ((c.tc : Thread Cert.ScoresReferenceIdeal.nD Cert.ScoresReferenceIdeal.τ).loc Cert.ScoresReferenceIdeal.main_arg3) = m' ((c.tc : Thread Cert.ScoresReferenceIdeal.nD Cert.ScoresReferenceIdeal.τ).loc Cert.ScoresReferenceIdeal.main_arg3)
          ∧ r.2.mem ((c.tc : Thread Cert.ScoresReferenceIdeal.nD Cert.ScoresReferenceIdeal.τ).loc Cert.ScoresReferenceIdeal.main_arg4) = m' ((c.tc : Thread Cert.ScoresReferenceIdeal.nD Cert.ScoresReferenceIdeal.τ).loc Cert.ScoresReferenceIdeal.main_arg4))

def Claim : Prop :=
  ∃ (hAttend : Cert.Attend.Facts) (hAttendIdeal : Cert.AttendIdeal.Facts) (hAttendReferenceIdeal : Cert.AttendReferenceIdeal.Facts) (hScores : Cert.Scores.Facts) (hScoresIdeal : Cert.ScoresIdeal.Facts) (hScoresReferenceIdeal : Cert.ScoresReferenceIdeal.Facts) (hPre_scores_in_range : Cert.Pre_scores_in_range.Facts),
    quiescent_Attend (hAttend := hAttend)
    ∧ quiescent_AttendIdeal (hAttendIdeal := hAttendIdeal)
    ∧ quiescent_AttendReferenceIdeal (hAttendReferenceIdeal := hAttendReferenceIdeal)
    ∧ quiescent_Scores (hScores := hScores)
    ∧ quiescent_ScoresIdeal (hScoresIdeal := hScoresIdeal)
    ∧ quiescent_ScoresIdeal_pre_scores_in_range (hScoresIdeal := hScoresIdeal) (hPre_scores_in_range := hPre_scores_in_range)
    ∧ quiescent_ScoresReferenceIdeal (hScoresReferenceIdeal := hScoresReferenceIdeal)
    ∧ quiescent_ScoresReferenceIdeal_pre_scores_in_range (hScoresReferenceIdeal := hScoresReferenceIdeal) (hPre_scores_in_range := hPre_scores_in_range)
    ∧ preserves_Attend_AttendIdeal
    ∧ algebraic_AttendIdeal_AttendReferenceIdeal (hAttendIdeal := hAttendIdeal) (hAttendReferenceIdeal := hAttendReferenceIdeal)
    ∧ preserves_Scores_ScoresIdeal
    ∧ algebraic_ScoresIdeal_ScoresReferenceIdeal_pre_scores_in_range (hScoresIdeal := hScoresIdeal) (hScoresReferenceIdeal := hScoresReferenceIdeal) (hPre_scores_in_range := hPre_scores_in_range)
-- ==== Pre_scores_in_range.lean ====
abbrev S3 : Shape := ⟨1, ![3]⟩
abbrev S3x1x5120 : Shape := ⟨3, ![3, 1, 5120]⟩
abbrev S10x16 : Shape := ⟨2, ![10, 16]⟩
abbrev S3x10x32768x16 : Shape := ⟨4, ![3, 10, 32768, 16]⟩
abbrev S3x10x65536 : Shape := ⟨3, ![3, 10, 65536]⟩
abbrev S_ : Shape := ⟨0, ![]⟩
abbrev S1x10x16 : Shape := ⟨3, ![1, 10, 16]⟩
abbrev S3x1x1 : Shape := ⟨3, ![3, 1, 1]⟩
abbrev S3x10x16 : Shape := ⟨3, ![3, 10, 16]⟩

class Facts : Prop where
  bcast_S_S10x16 : S_.BroadcastsInDim S10x16 (![] : Fin 0 → Fin S10x16.rank)
  bcast_S10x16_S1x10x16_1_2 : S10x16.BroadcastsInDim S1x10x16 (![1, 2] : Fin 2 → Fin S1x10x16.rank)
  bcast_S_S3 : S_.BroadcastsInDim S3 (![] : Fin 0 → Fin S3.rank)
  bcast_S3_S3x1x1_0 : S3.BroadcastsInDim S3x1x1 (![0] : Fin 1 → Fin S3x1x1.rank)
  bcast_S1x10x16_S3x10x16_0_1_2 : S1x10x16.BroadcastsInDim S3x10x16 (![0, 1, 2] : Fin 3 → Fin S3x10x16.rank)
  bcast_S3x1x1_S3x10x16_0_1_2 : S3x1x1.BroadcastsInDim S3x10x16 (![0, 1, 2] : Fin 3 → Fin S3x10x16.rank)

variable [Facts]

def fn {F : FTy → Type} [FloatOps F] (main_arg0 : IVec S3 32) (main_arg1 : FVec F S3x1x5120 .bf16) (main_arg2 : IVec S10x16 32) (main_arg3 : IVec S3x10x32768x16 8) (main_arg4 : FVec F S3x10x65536 .f32) : IVec S3x10x16 1 :=
  let main_c : IVec S_ 32 := constantI S_ 32 0#32
  let main_v0 : IVec S10x16 32 := broadcastInDim S10x16 ![] bcast_S_S10x16 main_c
  let main_v1 : IVec S10x16 1 := cmpi .sge main_arg2 main_v0
  let main_c_0 : IVec S_ 32 := constantI S_ 32 128#32
  let main_v2 : IVec S10x16 32 := broadcastInDim S10x16 ![] bcast_S_S10x16 main_c_0
  let main_v3 : IVec S10x16 1 := cmpi .slt main_arg2 main_v2
  let main_v4 : IVec S10x16 1 := andi main_v1 main_v3
  let main_v5 : IVec S1x10x16 1 := broadcastInDim S1x10x16 ![1, 2] bcast_S10x16_S1x10x16_1_2 main_v4
  let main_c_1 : IVec S_ 32 := constantI S_ 32 2147479552#32
  let main_v6 : IVec S3 32 := broadcastInDim S3 ![] bcast_S_S3 main_c_1
  let main_v7 : IVec S3 1 := cmpi .sle main_arg0 main_v6
  let main_v8 : IVec S3x1x1 1 := broadcastInDim S3x1x1 ![0] bcast_S3_S3x1x1_0 main_v7
  let main_v9 : IVec S3x10x16 1 := broadcastInDim S3x10x16 ![0, 1, 2] bcast_S1x10x16_S3x10x16_0_1_2 main_v5
  let main_v10 : IVec S3x10x16 1 := broadcastInDim S3x10x16 ![0, 1, 2] bcast_S3x1x1_S3x10x16_0_1_2 main_v8
  let main_v11 : IVec S3x10x16 1 := andi main_v9 main_v10
  main_v11
-- ==== Attend.lean ====
abbrev S3x1x5120 : Shape := ⟨3, ![3, 1, 5120]⟩
abbrev S3x1x10x128 : Shape := ⟨4, ![3, 1, 10, 128]⟩
abbrev S30720x128 : Shape := ⟨2, ![30720, 128]⟩
abbrev S30x1x4096 : Shape := ⟨3, ![30, 1, 4096]⟩
abbrev S3x10x4x128 : Shape := ⟨4, ![3, 10, 4, 128]⟩
abbrev S3x10x1x128 : Shape := ⟨4, ![3, 10, 1, 128]⟩
abbrev S3x10x4x4097 : Shape := ⟨4, ![3, 10, 4, 4097]⟩
abbrev S1x1x4x128 : Shape := ⟨4, ![1, 1, 4, 128]⟩
abbrev S1x1x1x128 : Shape := ⟨4, ![1, 1, 1, 128]⟩
abbrev S1024x128 : Shape := ⟨2, ![1024, 128]⟩
abbrev S1x1x4096 : Shape := ⟨3, ![1, 1, 4096]⟩
abbrev S1x1x4x4097 : Shape := ⟨4, ![1, 1, 4, 4097]⟩
abbrev S4x128 : Shape := ⟨2, ![4, 128]⟩
abbrev S4096x128 : Shape := ⟨2, ![4096, 128]⟩
abbrev S4x4096 : Shape := ⟨2, ![4, 4096]⟩
abbrev S1x4096 : Shape := ⟨2, ![1, 4096]⟩
abbrev S1x128 : Shape := ⟨2, ![1, 128]⟩
abbrev S4 : Shape := ⟨1, ![4]⟩
abbrev S4x1 : Shape := ⟨2, ![4, 1]⟩
abbrev S1x1x4x4096 : Shape := ⟨4, ![1, 1, 4, 4096]⟩
abbrev S1x1x4x1 : Shape := ⟨4, ![1, 1, 4, 1]⟩

abbrev nBuf : Space → Nat
  | .hbm => 12
  | .vmem => 18
  | .smem => 0
  | _ => 0

abbrev bufTy : (tb : Table) → Fin (tcTables nBuf tb) → BufTy
  | .hbm, ⟨0, _⟩ => ⟨S3x1x5120, .bf16⟩
  | .hbm, ⟨1, _⟩ => ⟨S3x1x10x128, .bf16⟩
  | .hbm, ⟨2, _⟩ => ⟨S3x1x10x128, .bf16⟩
  | .hbm, ⟨3, _⟩ => ⟨S30720x128, .i32⟩
  | .hbm, ⟨4, _⟩ => ⟨S30x1x4096, .f32⟩
  | .hbm, ⟨5, _⟩ => ⟨S30720x128, .i32⟩
  | .hbm, ⟨6, _⟩ => ⟨S30x1x4096, .f32⟩
  | .hbm, ⟨7, _⟩ => ⟨S3x10x4x128, .bf16⟩
  | .hbm, ⟨8, _⟩ => ⟨S3x10x1x128, .bf16⟩
  | .hbm, ⟨9, _⟩ => ⟨S3x10x1x128, .bf16⟩
  | .hbm, ⟨10, _⟩ => ⟨S3x10x4x128, .bf16⟩
  | .hbm, ⟨11, _⟩ => ⟨S3x10x4x4097, .f32⟩
  | .local _ .vmem, ⟨0, _⟩ => ⟨S1x1x4x128, .bf16⟩
  | .local _ .vmem, ⟨1, _⟩ => ⟨S1x1x4x128, .bf16⟩
  | .local _ .vmem, ⟨2, _⟩ => ⟨S1x1x1x128, .bf16⟩
  | .local _ .vmem, ⟨3, _⟩ => ⟨S1x1x1x128, .bf16⟩
  | .local _ .vmem, ⟨4, _⟩ => ⟨S1x1x1x128, .bf16⟩
  | .local _ .vmem, ⟨5, _⟩ => ⟨S1x1x1x128, .bf16⟩
  | .local _ .vmem, ⟨6, _⟩ => ⟨S1024x128, .i32⟩
  | .local _ .vmem, ⟨7, _⟩ => ⟨S1024x128, .i32⟩
  | .local _ .vmem, ⟨8, _⟩ => ⟨S1x1x4096, .f32⟩
  | .local _ .vmem, ⟨9, _⟩ => ⟨S1x1x4096, .f32⟩
  | .local _ .vmem, ⟨10, _⟩ => ⟨S1024x128, .i32⟩
  | .local _ .vmem, ⟨11, _⟩ => ⟨S1024x128, .i32⟩
  | .local _ .vmem, ⟨12, _⟩ => ⟨S1x1x4096, .f32⟩
  | .local _ .vmem, ⟨13, _⟩ => ⟨S1x1x4096, .f32⟩
  | .local _ .vmem, ⟨14, _⟩ => ⟨S1x1x4x128, .bf16⟩
  | .local _ .vmem, ⟨15, _⟩ => ⟨S1x1x4x128, .bf16⟩
  | .local _ .vmem, ⟨16, _⟩ => ⟨S1x1x4x4097, .f32⟩
  | .local _ .vmem, ⟨17, _⟩ => ⟨S1x1x4x4097, .f32⟩
  | _, _ => ⟨S3x1x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![3, 10], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.muli arg0 c10_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 3 → Nat :=
  let arg0 : BitVec 32 := BitVec.ofNat 32 (i 0).val
  let arg1 : BitVec 32 := BitVec.ofNat 32 (i 1).val
  let c10_i32 : BitVec 32 := 10#32
  let v0 : BitVec 32 := Scalar.muli arg0 c10_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.muli arg0 c10_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 3 → Nat :=
  let arg0 : BitVec 32 := BitVec.ofNat 32 (i 0).val
  let arg1 : BitVec 32 := BitVec.ofNat 32 (i 1).val
  let c10_i32 : BitVec 32 := 10#32
  let v0 : BitVec 32 := Scalar.muli arg0 c10_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x1x4x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x128 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x128 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x4x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1x4x4097 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AttendReferenceIdeal.lean ====
abbrev S3x1x5120 : Shape := ⟨3, ![3, 1, 5120]⟩
abbrev S3x1x10x128 : Shape := ⟨4, ![3, 1, 10, 128]⟩
abbrev S30720x128 : Shape := ⟨2, ![30720, 128]⟩
abbrev S30x1x4096 : Shape := ⟨3, ![30, 1, 4096]⟩
abbrev S30x4x128 : Shape := ⟨3, ![30, 4, 128]⟩
abbrev S30x1x128 : Shape := ⟨3, ![30, 1, 128]⟩
abbrev S3x10x4x128 : Shape := ⟨4, ![3, 10, 4, 128]⟩
abbrev S3x10x4x4097 : Shape := ⟨4, ![3, 10, 4, 4097]⟩
abbrev S30720x4x128 : Shape := ⟨3, ![30720, 4, 128]⟩
abbrev S30720x1x128 : Shape := ⟨3, ![30720, 1, 128]⟩
abbrev S122880x128 : Shape := ⟨2, ![122880, 128]⟩
abbrev S30x4096x128 : Shape := ⟨3, ![30, 4096, 128]⟩
abbrev S30x4x4096 : Shape := ⟨3, ![30, 4, 4096]⟩
abbrev S30x4x1 : Shape := ⟨3, ![30, 4, 1]⟩
abbrev S30x4x4097 : Shape := ⟨3, ![30, 4, 4097]⟩
abbrev S30x4 : Shape := ⟨2, ![30, 4]⟩

abbrev nBuf : Space → Nat
  | .hbm => 12
  | .vmem => 9
  | .smem => 0
  | _ => 0

abbrev bufTy : (tb : Table) → Fin (tcTables nBuf tb) → BufTy
  | .hbm, ⟨0, _⟩ => ⟨S3x1x5120, .bf16⟩
  | .hbm, ⟨1, _⟩ => ⟨S3x1x10x128, .bf16⟩
  | .hbm, ⟨2, _⟩ => ⟨S3x1x10x128, .bf16⟩
  | .hbm, ⟨3, _⟩ => ⟨S30720x128, .i32⟩
  | .hbm, ⟨4, _⟩ => ⟨S30x1x4096, .f32⟩
  | .hbm, ⟨5, _⟩ => ⟨S30720x128, .i32⟩
  | .hbm, ⟨6, _⟩ => ⟨S30x1x4096, .f32⟩
  | .hbm, ⟨7, _⟩ => ⟨S30x4x128, .bf16⟩
  | .hbm, ⟨8, _⟩ => ⟨S30x1x128, .bf16⟩
  | .hbm, ⟨9, _⟩ => ⟨S30x1x128, .bf16⟩
  | .hbm, ⟨10, _⟩ => ⟨S3x10x4x128, .bf16⟩
  | .hbm, ⟨11, _⟩ => ⟨S3x10x4x4097, .f32⟩
  | .local _ .vmem, ⟨0, _⟩ => ⟨S30x4x128, .bf16⟩
  | .local _ .vmem, ⟨1, _⟩ => ⟨S30x1x128, .bf16⟩
  | .local _ .vmem, ⟨2, _⟩ => ⟨S30x1x128, .bf16⟩
  | .local _ .vmem, ⟨3, _⟩ => ⟨S30720x128, .i32⟩
  | .local _ .vmem, ⟨4, _⟩ => ⟨S30x1x4096, .f32⟩
  | .local _ .vmem, ⟨5, _⟩ => ⟨S30720x128, .i32⟩
  | .local _ .vmem, ⟨6, _⟩ => ⟨S30x1x4096, .f32⟩
  | .local _ .vmem, ⟨7, _⟩ => ⟨S3x10x4x128, .bf16⟩
  | .local _ .vmem, ⟨8, _⟩ => ⟨S3x10x4x4097, .f32⟩
  | _, _ => ⟨S3x1x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S30x4x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S30x1x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S30x1x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S30720x128 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S30x1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S30720x128 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S30x1x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S3x10x4x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S3x10x4x4097 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== Scores.lean ====
abbrev S3 : Shape := ⟨1, ![3]⟩
abbrev S3x1x5120 : Shape := ⟨3, ![3, 1, 5120]⟩
abbrev S10x16 : Shape := ⟨2, ![10, 16]⟩
abbrev S3x10x32768x16 : Shape := ⟨4, ![3, 10, 32768, 16]⟩
abbrev S3x10x65536 : Shape := ⟨3, ![3, 10, 65536]⟩
abbrev S3x40x128 : Shape := ⟨3, ![3, 40, 128]⟩
abbrev S1x160 : Shape := ⟨2, ![1, 160]⟩
abbrev S3x10x16x32768 : Shape := ⟨4, ![3, 10, 16, 32768]⟩
abbrev S10x3x65536 : Shape := ⟨3, ![10, 3, 65536]⟩
abbrev S3x40x65536 : Shape := ⟨3, ![3, 40, 65536]⟩
abbrev S1x10x16x2048 : Shape := ⟨4, ![1, 10, 16, 2048]⟩
abbrev S1 : Shape := ⟨1, ![1]⟩
abbrev S10x3x4096 : Shape := ⟨3, ![10, 3, 4096]⟩
abbrev S3x40x4096 : Shape := ⟨3, ![3, 40, 4096]⟩
abbrev S3x40x160 : Shape := ⟨3, ![3, 40, 160]⟩
abbrev S128x160 : Shape := ⟨2, ![128, 160]⟩
abbrev S1x40x128 : Shape := ⟨3, ![1, 40, 128]⟩
abbrev S40x128 : Shape := ⟨2, ![40, 128]⟩
abbrev S40x160 : Shape := ⟨2, ![40, 160]⟩
abbrev S1x40x160 : Shape := ⟨3, ![1, 40, 160]⟩
abbrev S10x16x2048 : Shape := ⟨3, ![10, 16, 2048]⟩
abbrev S160x2048 : Shape := ⟨2, ![160, 2048]⟩
abbrev S40x2048 : Shape := ⟨2, ![40, 2048]⟩
abbrev S40x128x1 : Shape := ⟨3, ![40, 128, 1]⟩
abbrev S160x128 : Shape := ⟨2, ![160, 128]⟩
abbrev S10x1x128 : Shape := ⟨3, ![10, 1, 128]⟩
abbrev S10x128 : Shape := ⟨2, ![10, 128]⟩
abbrev S10x4x128 : Shape := ⟨3, ![10, 4, 128]⟩
abbrev S40x4096 : Shape := ⟨2, ![40, 4096]⟩
abbrev S1x40x4096 : Shape := ⟨3, ![1, 40, 4096]⟩

abbrev nBuf : Space → Nat
  | .hbm => 9
  | .vmem => 13
  | .smem => 1
  | _ => 0

abbrev bufTy : (tb : Table) → Fin (tcTables nBuf tb) → BufTy
  | .hbm, ⟨0, _⟩ => ⟨S3x1x5120, .bf16⟩
  | .hbm, ⟨1, _⟩ => ⟨S10x16, .i32⟩
  | .hbm, ⟨2, _⟩ => ⟨S3x10x32768x16, .i8⟩
  | .hbm, ⟨3, _⟩ => ⟨S3x10x65536, .f32⟩
  | .hbm, ⟨4, _⟩ => ⟨S3x40x128, .bf16⟩
  | .hbm, ⟨5, _⟩ => ⟨S1x160, .i32⟩
  | .hbm, ⟨6, _⟩ => ⟨S3x10x16x32768, .i8⟩
  | .hbm, ⟨7, _⟩ => ⟨S10x3x65536, .f32⟩
  | .hbm, ⟨8, _⟩ => ⟨S3x40x65536, .f32⟩
  | .local _ .vmem, ⟨0, _⟩ => ⟨S3x40x128, .bf16⟩
  | .local _ .vmem, ⟨1, _⟩ => ⟨S1x160, .i32⟩
  | .local _ .vmem, ⟨2, _⟩ => ⟨S1x10x16x2048, .i8⟩
  | .local _ .vmem, ⟨3, _⟩ => ⟨S1x10x16x2048, .i8⟩
  | .local _ .vmem, ⟨4, _⟩ => ⟨S1x10x16x2048, .i8⟩
  | .local _ .vmem, ⟨5, _⟩ => ⟨S1x10x16x2048, .i8⟩
  | .local _ .vmem, ⟨6, _⟩ => ⟨S1x10x16x2048, .i8⟩
  | .local _ .vmem, ⟨7, _⟩ => ⟨S1x10x16x2048, .i8⟩
  | .local _ .vmem, ⟨8, _⟩ => ⟨S10x3x4096, .f32⟩
  | .local _ .vmem, ⟨9, _⟩ => ⟨S10x3x4096, .f32⟩
  | .local _ .vmem, ⟨10, _⟩ => ⟨S3x40x4096, .f32⟩
  | .local _ .vmem, ⟨11, _⟩ => ⟨S3x40x4096, .f32⟩
  | .local _ .vmem, ⟨12, _⟩ => ⟨S3x40x160, .bf16⟩
  | .local _ .smem, ⟨0, _⟩ => ⟨S3, .i32⟩
  | _, _ => ⟨S3x1x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_arg0 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![16], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_cond2 (i : grid0.Coords) (v3 : BitVec 32) : BitVec 1 :=
  let arg0 : BitVec 32 := BitVec.ofNat 32 (i 0).val
  let c4096_i32 : BitVec 32 := 4096#32
  let v4 : BitVec 32 := Scalar.muli arg0 c4096_i32
  let v5 : BitVec 1 := Scalar.cmpi .slt v4 v3
  let v6 : BitVec 32 := Scalar.extui v5
  let c0_i32_1 : BitVec 32 := 0#32
  let v7 : BitVec 1 := Scalar.cmpi .ne v6 c0_i32_1
  v7

def k0_cond3 (i : grid0.Coords) (v3 : BitVec 32) : BitVec 1 :=
  let arg0 : BitVec 32 := BitVec.ofNat 32 (i 0).val
  let c4096_i32_2 : BitVec 32 := 4096#32
  let v8 : BitVec 32 := Scalar.muli arg0 c4096_i32_2
  let v9 : BitVec 1 := Scalar.cmpi .sge v8 v3
  let v10 : BitVec 32 := Scalar.extui v9
  let c0_i32_3 : BitVec 32 := 0#32
  let v11 : BitVec 1 := Scalar.cmpi .ne v10 c0_i32_3
  v11

def k0_cond4 (i : grid0.Coords) (v12 : BitVec 32) : BitVec 1 :=
  let arg0 : BitVec 32 := BitVec.ofNat 32 (i 0).val
  let c4096_i32_4 : BitVec 32 := 4096#32
  let v13 : BitVec 32 := Scalar.muli arg0 c4096_i32_4
  let v14 : BitVec 1 := Scalar.cmpi .slt v13 v12
  let v15 : BitVec 32 := Scalar.extui v14
  let c0_i32_5 : BitVec 32 := 0#32
  let v16 : BitVec 1 := Scalar.cmpi .ne v15 c0_i32_5
  v16

def k0_cond5 (i : grid0.Coords) (v12 : BitVec 32) : BitVec 1 :=
  let arg0 : BitVec 32 := BitVec.ofNat 32 (i 0).val
  let c4096_i32_6 : BitVec 32 := 4096#32
  let v17 : BitVec 32 := Scalar.muli arg0 c4096_i32_6
  let v18 : BitVec 1 := Scalar.cmpi .sge v17 v12
  let v19 : BitVec 32 := Scalar.extui v18
  let c0_i32_7 : BitVec 32 := 0#32
  let v20 : BitVec 1 := Scalar.cmpi .ne v19 c0_i32_7
  v20

def k0_cond6 (i : grid0.Coords) (v21 : BitVec 32) : BitVec 1 :=
  let arg0 : BitVec 32 := BitVec.ofNat 32 (i 0).val
  let c4096_i32_8 : BitVec 32 := 4096#32
  let v22 : BitVec 32 := Scalar.muli arg0 c4096_i32_8
  let v23 : BitVec 1 := Scalar.cmpi .slt v22 v21
  let v24 : BitVec 32 := Scalar.extui v23
  let c0_i32_9 : BitVec 32 := 0#32
  let v25 : BitVec 1 := Scalar.cmpi .ne v24 c0_i32_9
  v25

def k0_cond7 (i : grid0.Coords) (v21 : BitVec 32) : BitVec 1 :=
  let arg0 : BitVec 32 := BitVec.ofNat 32 (i 0).val
  let c4096_i32_10 : BitVec 32 := 4096#32
  let v26 : BitVec 32 := Scalar.muli arg0 c4096_i32_10
  let v27 : BitVec 1 := Scalar.cmpi .sge v26 v21
  let v28 : BitVec 32 := Scalar.extui v27
  let c0_i32_11 : BitVec 32 := 0#32
  let v29 : BitVec 1 := Scalar.cmpi .ne v28 c0_i32_11
  v29

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (inb_S3_S1_0 : ∀ a, (![0] : Fin 1 → Nat) a + S1.size a ≤ S3.size a) (numel1_S1 : S1.numel = 1) (pf : pre0.Contents (Elt F)) (i : grid0.Coords) : Fin 4 → Nat :=
  let arg0 : BitVec 32 := BitVec.ofNat 32 (i 0).val
  let c0 : Index := 0#32
  let v0 : BitVec 32 := pf.at 0 (Rect.unit (s := S3) ![0] S1.size inb_S3_S1_0) numel1_S1
  let c4095_i32 : BitVec 32 := 4095#32
  let v1 : BitVec 32 := Scalar.addi v0 c4095_i32
  let c4096_i32 : BitVec 32 := 4096#32
  let v2 : BitVec 32 := Scalar.divsi v1 c4096_i32
  let c1_i32 : BitVec 32 := 1#32
  let v3 : BitVec 32 := Scalar.subi v2 c1_i32
  let c0_i32 : BitVec 32 := 0#32
  let v4 : BitVec 32 := Scalar.maxsi v3 c0_i32
  let v5 : BitVec 32 := Scalar.minsi arg0 v4
  let c0_i32_0 : BitVec 32 := 0#32
  let c0_i32_1 : BitVec 32 := 0#32
  let c0_i32_2 : BitVec 32 := 0#32
  let c0_i32_3 : BitVec 32 := 0#32
  ![c0_i32_0.toNat, c0_i32_1.toNat, c0_i32_2.toNat, v5.toNat]

def cc0_transform_3 (inb_S3_S1_1 : ∀ a, (![1] : Fin 1 → Nat) a + S1.size a ≤ S3.size a) (numel1_S1 : S1.numel = 1) (pf : pre0.Contents (Elt F)) (i : grid0.Coords) : Fin 4 → Nat :=
  let arg0 : BitVec 32 := BitVec.ofNat 32 (i 0).val
  let c1 : Index := 1#32
  let v0 : BitVec 32 := pf.at 0 (Rect.unit (s := S3) ![1] S1.size inb_S3_S1_1) numel1_S1
  let c4095_i32 : BitVec 32 := 4095#32
  let v1 : BitVec 32 := Scalar.addi v0 c4095_i32
  let c4096_i32 : BitVec 32 := 4096#32
  let v2 : BitVec 32 := Scalar.divsi v1 c4096_i32
  let c1_i32 : BitVec 32 := 1#32
  let v3 : BitVec 32 := Scalar.subi v2 c1_i32
  let c0_i32 : BitVec 32 := 0#32
  let v4 : BitVec 32 := Scalar.maxsi v3 c0_i32
  let v5 : BitVec 32 := Scalar.minsi arg0 v4
  let c1_i32_0 : BitVec 32 := 1#32
  let c0_i32_1 : BitVec 32 := 0#32
  let c0_i32_2 : BitVec 32 := 0#32
  let c0_i32_3 : BitVec 32 := 0#32
  ![c1_i32_0.toNat, c0_i32_1.toNat, c0_i32_2.toNat, v5.toNat]

def cc0_transform_4 (inb_S3_S1_2 : ∀ a, (![2] : Fin 1 → Nat) a + S1.size a ≤ S3.size a) (numel1_S1 : S1.numel = 1) (pf : pre0.Contents (Elt F)) (i : grid0.Coords) : Fin 4 → Nat :=
  let arg0 : BitVec 32 := BitVec.ofNat 32 (i 0).val
  let c2 : Index := 2#32
  let v0 : BitVec 32 := pf.at 0 (Rect.unit (s := S3) ![2] S1.size inb_S3_S1_2) numel1_S1
  let c4095_i32 : BitVec 32 := 4095#32
  let v1 : BitVec 32 := Scalar.addi v0 c4095_i32
  let c4096_i32 : BitVec 32 := 4096#32
  let v2 : BitVec 32 := Scalar.divsi v1 c4096_i32
  let c1_i32 : BitVec 32 := 1#32
  let v3 : BitVec 32 := Scalar.subi v2 c1_i32
  let c0_i32 : BitVec 32 := 0#32
  let v4 : BitVec 32 := Scalar.maxsi v3 c0_i32
  let v5 : BitVec 32 := Scalar.minsi arg0 v4
  let c2_i32 : BitVec 32 := 2#32
  let c0_i32_0 : BitVec 32 := 0#32
  let c0_i32_1 : BitVec 32 := 0#32
  let c0_i32_2 : BitVec 32 := 0#32
  ![c2_i32.toNat, c0_i32_0.toNat, c0_i32_1.toNat, v5.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 1 → Memref sig .tc .vmem S3x40x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x160 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x10x16x2048 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x10x16x2048 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x10x16x2048 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S10x3x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S3x40x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ScoresReferenceIdeal.lean ====
abbrev S3 : Shape := ⟨1, ![3]⟩
abbrev S3x1x5120 : Shape := ⟨3, ![3, 1, 5120]⟩
abbrev S10x16 : Shape := ⟨2, ![10, 16]⟩
abbrev S3x10x32768x16 : Shape := ⟨4, ![3, 10, 32768, 16]⟩
abbrev S3x10x65536 : Shape := ⟨3, ![3, 10, 65536]⟩
abbrev S3x40x128 : Shape := ⟨3, ![3, 40, 128]⟩
abbrev S10x4x16 : Shape := ⟨3, ![10, 4, 16]⟩
abbrev S40x16 : Shape := ⟨2, ![40, 16]⟩
abbrev S40 : Shape := ⟨1, ![40]⟩
abbrev S40x1 : Shape := ⟨2, ![40, 1]⟩
abbrev S_ : Shape := ⟨0, ![]⟩
abbrev S40x16x1 : Shape := ⟨3, ![40, 16, 1]⟩
abbrev S40x16x2 : Shape := ⟨3, ![40, 16, 2]⟩
abbrev S3x40x16 : Shape := ⟨3, ![3, 40, 16]⟩
abbrev S3x10x4x16 : Shape := ⟨4, ![3, 10, 4, 16]⟩
abbrev S3x10x4x32768 : Shape := ⟨4, ![3, 10, 4, 32768]⟩
abbrev S3x10x32768x2 : Shape := ⟨4, ![3, 10, 32768, 2]⟩
abbrev S3x10x32768x1 : Shape := ⟨4, ![3, 10, 32768, 1]⟩
abbrev S3x10x32768 : Shape := ⟨3, ![3, 10, 32768]⟩
abbrev S3x10x1x32768 : Shape := ⟨4, ![3, 10, 1, 32768]⟩
abbrev S3x10x4x32768x1 : Shape := ⟨5, ![3, 10, 4, 32768, 1]⟩
abbrev S3x10x4x32768x2 : Shape := ⟨5, ![3, 10, 4, 32768, 2]⟩
abbrev S3x40x65536 : Shape := ⟨3, ![3, 40, 65536]⟩
abbrev S65536 : Shape := ⟨1, ![65536]⟩
abbrev S1x1x65536 : Shape := ⟨3, ![1, 1, 65536]⟩
abbrev S3x1x1 : Shape := ⟨3, ![3, 1, 1]⟩
abbrev S3x1x65536 : Shape := ⟨3, ![3, 1, 65536]⟩

abbrev nBuf : Space → Nat
  | .hbm => 87
  | .vmem => 0
  | .smem => 0
  | _ => 0

abbrev bufTy : (tb : Table) → Fin (tcTables nBuf tb) → BufTy
  | .hbm, ⟨0, _⟩ => ⟨S3, .i32⟩
  | .hbm, ⟨1, _⟩ => ⟨S3x1x5120, .bf16⟩
  | .hbm, ⟨2, _⟩ => ⟨S10x16, .i32⟩
  | .hbm, ⟨3, _⟩ => ⟨S3x10x32768x16, .i8⟩
  | .hbm, ⟨4, _⟩ => ⟨S3x10x65536, .f32⟩
  | .hbm, ⟨5, _⟩ => ⟨S3x40x128, .bf16⟩
  | .hbm, ⟨6, _⟩ => ⟨S10x4x16, .i32⟩
  | .hbm, ⟨7, _⟩ => ⟨S40x16, .i32⟩
  | .hbm, ⟨8, _⟩ => ⟨S40, .i32⟩
  | .hbm, ⟨9, _⟩ => ⟨S40x1, .i32⟩
  | .hbm, ⟨10, _⟩ => ⟨S_, .i32⟩
  | .hbm, ⟨11, _⟩ => ⟨S40x1, .i32⟩
  | .hbm, ⟨12, _⟩ => ⟨S40x1, .i1⟩
  | .hbm, ⟨13, _⟩ => ⟨S_, .i32⟩
  | .hbm, ⟨14, _⟩ => ⟨S40x1, .i32⟩
  | .hbm, ⟨15, _⟩ => ⟨S40x1, .i32⟩
  | .hbm, ⟨16, _⟩ => ⟨S40x1, .i32⟩
  | .hbm, ⟨17, _⟩ => ⟨S_, .i32⟩
  | .hbm, ⟨18, _⟩ => ⟨S40x16, .i32⟩
  | .hbm, ⟨19, _⟩ => ⟨S40x16, .i1⟩
  | .hbm, ⟨20, _⟩ => ⟨S_, .i32⟩
  | .hbm, ⟨21, _⟩ => ⟨S40x16, .i32⟩
  | .hbm, ⟨22, _⟩ => ⟨S40x16, .i32⟩
  | .hbm, ⟨23, _⟩ => ⟨S40x16, .i32⟩
  | .hbm, ⟨24, _⟩ => ⟨S40x16, .i32⟩
  | .hbm, ⟨25, _⟩ => ⟨S40x16x1, .i32⟩
  | .hbm, ⟨26, _⟩ => ⟨S40x16x1, .i32⟩
  | .hbm, ⟨27, _⟩ => ⟨S40x16x2, .i32⟩
  | .hbm, ⟨28, _⟩ => ⟨S3x40x16, .bf16⟩
  | .hbm, ⟨29, _⟩ => ⟨S3x10x4x16, .bf16⟩
  | .hbm, ⟨30, _⟩ => ⟨S3x10x32768x16, .i32⟩
  | .hbm, ⟨31, _⟩ => ⟨S_, .i32⟩
  | .hbm, ⟨32, _⟩ => ⟨S3x10x32768x16, .i32⟩
  | .hbm, ⟨33, _⟩ => ⟨S3x10x32768x16, .i32⟩
  | .hbm, ⟨34, _⟩ => ⟨S_, .i32⟩
  | .hbm, ⟨35, _⟩ => ⟨S3x10x32768x16, .i32⟩
  | .hbm, ⟨36, _⟩ => ⟨S3x10x32768x16, .i1⟩
  | .hbm, ⟨37, _⟩ => ⟨S_, .i32⟩
  | .hbm, ⟨38, _⟩ => ⟨S3x10x32768x16, .i32⟩
  | .hbm, ⟨39, _⟩ => ⟨S3x10x32768x16, .i32⟩
  | .hbm, ⟨40, _⟩ => ⟨S3x10x32768x16, .i32⟩
  | .hbm, ⟨41, _⟩ => ⟨S3x10x32768x16, .bf16⟩
  | .hbm, ⟨42, _⟩ => ⟨S_, .i32⟩
  | .hbm, ⟨43, _⟩ => ⟨S3x10x32768x16, .i32⟩
  | .hbm, ⟨44, _⟩ => ⟨S3x10x32768x16, .i32⟩
  | .hbm, ⟨45, _⟩ => ⟨S_, .i32⟩
  | .hbm, ⟨46, _⟩ => ⟨S3x10x32768x16, .i32⟩
  | .hbm, ⟨47, _⟩ => ⟨S3x10x32768x16, .i1⟩
  | .hbm, ⟨48, _⟩ => ⟨S_, .i32⟩
  | .hbm, ⟨49, _⟩ => ⟨S3x10x32768x16, .i32⟩
  | .hbm, ⟨50, _⟩ => ⟨S3x10x32768x16, .i32⟩
  | .hbm, ⟨51, _⟩ => ⟨S3x10x32768x16, .i32⟩
  | .hbm, ⟨52, _⟩ => ⟨S3x10x32768x16, .bf16⟩
  | .hbm, ⟨53, _⟩ => ⟨S3x10x4x32768, .f32⟩
  | .hbm, ⟨54, _⟩ => ⟨S3x10x4x32768, .f32⟩
  | .hbm, ⟨55, _⟩ => ⟨S3x10x32768x2, .f32⟩
  | .hbm, ⟨56, _⟩ => ⟨S3x10x32768x1, .f32⟩
  | .hbm, ⟨57, _⟩ => ⟨S3x10x32768, .f32⟩
  | .hbm, ⟨58, _⟩ => ⟨S_, .f32⟩
  | .hbm, ⟨59, _⟩ => ⟨S3x10x32768, .f32⟩
  | .hbm, ⟨60, _⟩ => ⟨S3x10x32768, .f32⟩
  | .hbm, ⟨61, _⟩ => ⟨S3x10x1x32768, .f32⟩
  | .hbm, ⟨62, _⟩ => ⟨S3x10x4x32768, .f32⟩
  | .hbm, ⟨63, _⟩ => ⟨S3x10x4x32768, .f32⟩
  | .hbm, ⟨64, _⟩ => ⟨S3x10x32768x1, .f32⟩
  | .hbm, ⟨65, _⟩ => ⟨S3x10x32768, .f32⟩
  | .hbm, ⟨66, _⟩ => ⟨S_, .f32⟩
  | .hbm, ⟨67, _⟩ => ⟨S3x10x32768, .f32⟩
  | .hbm, ⟨68, _⟩ => ⟨S3x10x32768, .f32⟩
  | .hbm, ⟨69, _⟩ => ⟨S3x10x1x32768, .f32⟩
  | .hbm, ⟨70, _⟩ => ⟨S3x10x4x32768, .f32⟩
  | .hbm, ⟨71, _⟩ => ⟨S3x10x4x32768, .f32⟩
  | .hbm, ⟨72, _⟩ => ⟨S3x10x4x32768x1, .f32⟩
  | .hbm, ⟨73, _⟩ => ⟨S3x10x4x32768x1, .f32⟩
  | .hbm, ⟨74, _⟩ => ⟨S3x10x4x32768x2, .f32⟩
  | .hbm, ⟨75, _⟩ => ⟨S3x40x65536, .f32⟩
  | .hbm, ⟨76, _⟩ => ⟨S65536, .i32⟩
  | .hbm, ⟨77, _⟩ => ⟨S1x1x65536, .i32⟩
  | .hbm, ⟨78, _⟩ => ⟨S3x1x1, .i32⟩
  | .hbm, ⟨79, _⟩ => ⟨S3x1x65536, .i32⟩
  | .hbm, ⟨80, _⟩ => ⟨S3x1x65536, .i32⟩
  | .hbm, ⟨81, _⟩ => ⟨S3x1x65536, .i1⟩
  | .hbm, ⟨82, _⟩ => ⟨S_, .f32⟩
  | .hbm, ⟨83, _⟩ => ⟨S_, .f32⟩
  | .hbm, ⟨84, _⟩ => ⟨S3x40x65536, .i1⟩
  | .hbm, ⟨85, _⟩ => ⟨S3x40x65536, .f32⟩
  | .hbm, ⟨86, _⟩ => ⟨S3x40x65536, .f32⟩
  | _, _ => ⟨S3, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_v5 : Ref sig .tc := ⟨.hbm, 11, rfl⟩
abbrev main_v6 : Ref sig .tc := ⟨.hbm, 12, rfl⟩
abbrev main_c_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c_1 : Ref sig .tc := ⟨.hbm, 17, rfl⟩
abbrev main_v10 : Ref sig .tc := ⟨.hbm, 18, rfl⟩
abbrev main_v11 : Ref sig .tc := ⟨.hbm, 19, rfl⟩
abbrev main_c_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_c_3 : Ref sig .tc := ⟨.hbm, 31, rfl⟩
abbrev main_v22 : Ref sig .tc := ⟨.hbm, 32, rfl⟩
abbrev main_v23 : Ref sig .tc := ⟨.hbm, 33, rfl⟩
abbrev main_c_4 : Ref sig .tc := ⟨.hbm, 34, rfl⟩
abbrev main_v24 : Ref sig .tc := ⟨.hbm, 35, rfl⟩
abbrev main_v25 : Ref sig .tc := ⟨.hbm, 36, rfl⟩
abbrev main_c_5 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_c_6 : Ref sig .tc := ⟨.hbm, 42, rfl⟩
abbrev main_v30 : Ref sig .tc := ⟨.hbm, 43, rfl⟩
abbrev main_v31 : Ref sig .tc := ⟨.hbm, 44, rfl⟩
abbrev main_c_7 : Ref sig .tc := ⟨.hbm, 45, rfl⟩
abbrev main_v32 : Ref sig .tc := ⟨.hbm, 46, rfl⟩
abbrev main_v33 : Ref sig .tc := ⟨.hbm, 47, rfl⟩
abbrev main_c_8 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_cst : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_cst_9 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_cst_10 : Ref sig .tc := ⟨.hbm, 82, rfl⟩
abbrev main_call2_v0 : Ref sig .tc := ⟨.hbm, 83, rfl⟩
abbrev main_call2_v1 : Ref sig .tc := ⟨.hbm, 84, rfl⟩
abbrev main_call2_v2 : Ref sig .tc := ⟨.hbm, 85, rfl⟩
abbrev main_v65 : Ref sig .tc := ⟨.hbm, 86, rfl⟩

abbrev nD : Nat := 1
abbrev τ : Topo := Topo.v7x

variable {F : FTy → Type} [FloatOps F]
-- ==== Proof.ReferenceRun.lean ====
/- The reference's run: its two result arrays named, its arguments unchanged. -/
module

public import proofs.«01_k».proof.Proof.Gen.AttendReferenceIdeal.Frame
public import Idealize.ShloMosaic.Lib.Pipeline.Value

@[expose] public section

noncomputable section

namespace Cert.ReferenceRun

open Cert.AttendReferenceIdeal Cert.AttendReferenceIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- After the frame run, output window 7's array is `(dats m 0 c).arrAt 7 N`. -/
theorem post7 (r : PUnit × MemSt nD τ sig (Elt F)) (h : Pipeline.FramePost cfgs (dats m) 0 (V m) r) (c : Dev nD) :
    r.2.mem ((c : Thread nD τ).loc main_v3_0) = (dats m 0 c).arrAt 7 cfg0.N :=
  (h c).1 7

/-- After the frame run, output window 8's array is `(dats m 0 c).arrAt 8 N`. -/
theorem post8 (r : PUnit × MemSt nD τ sig (Elt F)) (h : Pipeline.FramePost cfgs (dats m) 0 (V m) r) (c : Dev nD) :
    r.2.mem ((c : Thread nD τ).loc main_v3_1) = (dats m 0 c).arrAt 8 cfg0.N :=
  (h c).1 8

/-- After the frame run, argument `main_arg0` is as launched: no window stages it, and the run leaves the region's other buffers as they were. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

/-- After the frame run, argument `main_arg1` is as launched: no window stages it, and the run leaves the region's other buffers as they were. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- After the frame run, argument `main_arg2` is as launched: no window stages it, and the run leaves the region's other buffers as they were. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- After the frame run, argument `main_arg3` is as launched: input window 3 stages it and never writes it back. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 3).trans (((dats m 0 c).arrAt_in 3 rfl _).trans ((A_eq m c 3).trans (V_main_arg3 m c)))

/-- After the frame run, argument `main_arg4` is as launched: input window 4 stages it and never writes it back. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).1 4).trans (((dats m 0 c).arrAt_in 4 rfl _).trans ((A_eq m c 4).trans (V_main_arg4 m c)))

/-- After the frame run, argument `main_arg5` is as launched: input window 5 stages it and never writes it back. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).1 5).trans (((dats m 0 c).arrAt_in 5 rfl _).trans ((A_eq m c 5).trans (V_main_arg5 m c)))

/-- After the frame run, argument `main_arg6` is as launched: input window 6 stages it and never writes it back. -/
theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).1 6).trans (((dats m 0 c).arrAt_in 6 rfl _).trans ((A_eq m c 6).trans (V_main_arg6 m c)))

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v3_0) = (dats m 0 c).arrAt 7 cfg0.N
      ∧ r.2.mem ((c : Thread nD τ).loc main_v3_1) = (dats m 0 c).arrAt 8 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨post7 m r h c,
      post8 m r h c,
      kept_main_arg0 m r h c,
      kept_main_arg1 m r h c,
      kept_main_arg2 m r h c,
      kept_main_arg3 m r h c,
      kept_main_arg4 m r h c,
      kept_main_arg5 m r h c,
      kept_main_arg6 m r h c⟩)
    (run_main m ρ)

end Cert.ReferenceRun
-- ==== Proof.ScoresPoints.lean ====
/- Which grid points fetch and write back each window's block (program Scores). -/
module

public import proofs.«01_k».proof.Proof.Gen.Scores
public import Idealize.ShloMosaic.Lib.Pipeline.Kit

@[expose] public section

noncomputable section

namespace Cert.Scores.Gen

open Idealize.ShloMosaic Idealize.ShloMosaic.TcCoe
open Idealize.SL Idealize.SL.Sem

variable {F : FTy → Type} [FloatOps F]
/-! ## custom_call 0 -/

/-! A call with PREFETCHED TABLES: its memrefs and body are stated over the pipeline at ANY admissible contents `a`
    of the tables (a certificate instantiates them at the contents it reads off the launch memory). A window whose
    index map reads no table has the same schedule at every `a`: stated over the grid, the window's direction and
    that map alone (Lib/Pipeline/Kit.lean `Window.fetchOf` / `flushOf`), proved from the map and the fact about the
    axes it reads (`hreadsK_W`) or decided, and restated over the pinned window, which unfolds to them. A window whose
    map reads a table gets none here. -/

/-- Window 0 (operand 1 (%0)) is fetched at the first point only, at any contents of the tables (its index map reads none). -/
theorem fetch0_0 (a : (pcfg0 (F := F)).Adm) : ∀ t : Fin (cfg0 a).N, ((cfg0 a).win 0).fetch t = true ↔ t.val % 16 = 0 :=
  (fun t => Pipeline.Window.fetchOf_const cc0_transform_0 (fun _ _ => rfl) (n := 16) (by decide) t : ∀ t : Fin grid0.N, Pipeline.Window.fetchOf grid0 false cc0_transform_0 t = true ↔ t.val % 16 = 0)
/-- Window 1 (operand 2 (%1)) is fetched at the first point only, at any contents of the tables (its index map reads none). -/
theorem fetch0_1 (a : (pcfg0 (F := F)).Adm) : ∀ t : Fin (cfg0 a).N, ((cfg0 a).win 1).fetch t = true ↔ t.val % 16 = 0 :=
  (fun t => Pipeline.Window.fetchOf_const cc0_transform_1 (fun _ _ => rfl) (n := 16) (by decide) t : ∀ t : Fin grid0.N, Pipeline.Window.fetchOf grid0 false cc0_transform_1 t = true ↔ t.val % 16 = 0)
-- window 2: no schedule fact — its index map reads a prefetched table, so where it is fetched or written back depends on the tables' contents
-- window 3: no schedule fact — its index map reads a prefetched table, so where it is fetched or written back depends on the tables' contents
-- window 4: no schedule fact — its index map reads a prefetched table, so where it is fetched or written back depends on the tables' contents
/-- Window 5 (operand 6 (%3)) is fetched at every point, at any contents of the tables (its index map reads none). -/
theorem fetch0_5 (a : (pcfg0 (F := F)).Adm) : ∀ t : Fin (cfg0 a).N, ((cfg0 a).win 5).fetch t = true :=
  (fun t => (Pipeline.Window.fetchOf_reads cc0_transform_5 reads0_5 hreads0_5 0 (by decide) (by decide) (Pipeline.Window.sep_of_coord cc0_transform_5 0 2 (fun _ => rfl) (by decide)) (P := 1) (by decide) t).mpr (Nat.mod_one _) : ∀ t : Fin grid0.N, Pipeline.Window.fetchOf grid0 false cc0_transform_5 t = true)
/-- Window 6 (result 0 (%4)) is written back at every point, at any contents of the tables (its index map reads none). -/
theorem flush0_6 (a : (pcfg0 (F := F)).Adm) : ∀ t : Fin (cfg0 a).N, ((cfg0 a).win 6).flush t = true :=
  (fun t => (Pipeline.Window.flushOf_reads cc0_transform_6 reads0_6 hreads0_6 0 (by decide) (by decide) (Pipeline.Window.sep_of_coord cc0_transform_6 0 2 (fun _ => rfl) (by decide)) (P := 1) (m := 0) (by decide) rfl t).mpr (Nat.mod_one _) : ∀ t : Fin grid0.N, Pipeline.Window.flushOf grid0 true cc0_transform_6 t = true)

/-- The current staging memref of each window at point `t`: which of its buffers it is on. -/
abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)
abbrev st0_4 (a : (pcfg0 (F := F)).Adm) (t : Fin (cfg0 a).N) := ((cfg0 a).win 4).stage ((cfg0 a).slots t 4)
abbrev st0_5 (a : (pcfg0 (F := F)).Adm) (t : Fin (cfg0 a).N) := ((cfg0 a).win 5).stage ((cfg0 a).slots t 5)
abbrev st0_6 (a : (pcfg0 (F := F)).Adm) (t : Fin (cfg0 a).N) := ((cfg0 a).win 6).stage ((cfg0 a).slots t 6)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_label_scores (grid0.coords t) (Memref.whole main_arg0) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (Memref.whole cc0_scratch0) (Memref.isWhole_whole _)

end Cert.Scores.Gen

end
-- ==== Proof.ScoresKit.lean ====
/- The region's entry state, its windows' blocks and the shape of its invariant (program Scores). -/
module

public import proofs.«01_k».proof.Proof.Gen.Scores.Launch
public import proofs.«01_k».proof.Proof.Gen.Scores.Skeleton
public import proofs.«01_k».proof.Proof.ScoresPoints
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Scores.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

/-- No host operation before the region takes a fresh buffer. -/
theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 1) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; it holds for all lengths (`ScoresTable.lean`). -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S3 .i32 := Memref.whole main_arg0
abbrev htbM0_0 : tbM0_0.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0)) := by
  unfold Pipeline.ΦT Pipeline.prefHeld
  rw [show (Finset.univ : Finset (Fin 1)) = {(0 : Fin 1)} from by decide, bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of (hO : Ok m) {c : Dev nD} (dat : Dat τ (Elt F) Unit ℕ (UR sig nD τ) ℕ (cfgM m hO) c) (hA : dat.A 5 = V m c (Pipeline.arrRef spec0 5))
    (hafter : ∀ t, dat.after 5 t = iblk m hO c 5 t) (t : Fin (cfgM m hO).N) (d) : dat.before 5 t d = iblk m hO c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_Scores`, Defs.lean, at any `F`). -/
theorem frame_of (hO : Ok m) (dats : (p : Fin 1) → (c : Dev nD) → Dat τ (Elt F) Unit ℕ (UR sig nD τ) ℕ ((Pipeline.pin pcfgs fun _ => adm m hO) p) c)
    (hA : ∀ c w, (dats 0 c).A w = V m c (Pipeline.arrRef spec0 w))
    (h : θ_run defs (onTc (τ := τ) (main (F := F))) (s₀ m ρ) (Pipeline.FramePost (Pipeline.pin pcfgs fun _ => adm m hO) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).2 main_arg0 (by decide : main_arg0 ∈ Pipeline.restRefs sig spec0)).trans (V_main_arg0 m c),
      ((h c).2 main_arg1 (by decide : main_arg1 ∈ Pipeline.restRefs sig spec0)).trans (V_main_arg1 m c),
      ((h c).2 main_arg2 (by decide : main_arg2 ∈ Pipeline.restRefs sig spec0)).trans (V_main_arg2 m c),
      ((h c).2 main_arg3 (by decide : main_arg3 ∈ Pipeline.restRefs sig spec0)).trans (V_main_arg3 m c),
      ((h c).2 main_arg4 (by decide : main_arg4 ∈ Pipeline.restRefs sig spec0)).trans (V_main_arg4 m c)⟩) h

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin grid0.N, cond0_0 (grid0.coords t) ↔ t.val % 16 = 0 :=
  (fun t => by
    have ht : t.val < 16 := Nat.lt_of_lt_of_eq t.isLt N_0
    have e0 : (grid0.coords t 0).val = t.val / 1 % 16 := Pipeline.Grid.coords_val t 0 (by decide) rfl
    simp only [cond0_0, e0]
    word_cmp
   : ∀ t : Fin grid0.N, cond0_0 (grid0.coords t) ↔ t.val % 16 = 0)

/-! ## The kernel body on any staging memrefs: a subtype the run finds -/

/-- One staging buffer of output window 6, through which its contents are stated (`View.read_writes_of_cover`: the
    choice does not matter). -/
abbrev VO0_6 : View sig .tc .vmem S3x40x4096 .f32 := (Memref.whole cc0_stg6_0 : Memref sig .tc .vmem S3x40x4096 .f32).view
/-- Each window's current staging memref at point `t`, spelled as the pipeline passes it (`bodyAt0`), and its wholeness. -/
abbrev ms0_0 (hO : Ok m) (t : Fin (cfgM m hO).N) : Memref sig .tc .vmem S3x40x128 .bf16 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x160 .i32 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x10x16x2048 .i8 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1x10x16x2048 .i8 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S1x10x16x2048 .i8 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S10x3x4096 .f32 := spec0_5.stage ((cfgM m hO).slots t 5)
abbrev hs0_5 (hO : Ok m) (t : Fin (cfgM m hO).N) : (ms0_5 m hO t).IsWhole := hstage0_5 (((cfgM m hO).slots t 5).cast nbuf0_5)
abbrev ms0_6 (hO : Ok m) (t : Fin (cfgM m hO).N) : Memref sig .tc .vmem S3x40x4096 .f32 := spec0_6.stage ((cfgM m hO).slots t 6)
abbrev hs0_6 (hO : Ok m) (t : Fin (cfgM m hO).N) : (ms0_6 m hO t).IsWhole := hstage0_6 (((cfgM m hO).slots t 6).cast nbuf0_6)
/-- The scratch operands: whole scoped buffers of the kernel's own, passed beside the windows. -/
abbrev scM0_0 : Memref sig .tc .vmem S3x40x160 .bf16 := Memref.whole cc0_scratch0
/-- The scratch `arg9` the kernel carries between points, as a view: what it holds is stated through it. -/
abbrev VS0_0 : View sig .tc .vmem S3x40x160 .bf16 := scM0_0.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.Scores.Gen

end
-- ==== Proof.ScoresTile.lean ====
/- One grid point of the scores: its tiles, its output block and its scratch, as functions of what it reads. -/
module

public import proofs.«01_k».proof.Proof.ScoresKit
public import Idealize.ShloMosaic.Lib.Writes
public import Idealize.ShloMosaic.Lib.Pipeline.ValueKit
public import Idealize.ShloMosaic.Lib.WordCmp
public import Idealize.ShloMosaic.Lib.Pipeline.FrameBody

@[expose] public section

set_option maxRecDepth 16384

noncomputable section

namespace Cert.Scores.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The queries of one row, spread over the label channels: the one-hot product with the channels, kept where the lane's
    key head is the query head's own. -/
def qRow (x1 : Vec F S1x160 .i32) (x : Vec F S1x40x128 .bf16) : FVec F S1x40x160 .bf16 :=
  k0_pay1 (k0_pay16 (k0_pay5 x1) x) k0_pay17 k0_pay18 k0_pay19 k0_pay20 0#32

/-- The rectangle of row `b` of the query block, in bounds. -/
theorem inbX (b : Fin 3) : ∀ a, (![b.val, 0, 0] : Fin 3 → ℕ) a + S1x40x128.size a ≤ S3x40x128.size a := by
  intro a; fin_cases b <;> fin_cases a <;> decide

/-- The rectangle of row `b` of the scratch, in bounds. -/
theorem inbQ (b : Fin 3) : ∀ a, (![b.val, 0, 0] : Fin 3 → ℕ) a + S1x40x160.size a ≤ S3x40x160.size a := by
  intro a; fin_cases b <;> fin_cases a <;> decide

/-- The rectangle of tile `n` of row `b` of the scale block, in bounds. -/
theorem inbS (b : Fin 3) (n : Fin 32) : ∀ a, (![0, b.val, 128 * n.val] : Fin 3 → ℕ) a + S10x1x128.size a ≤ S10x3x4096.size a := by
  intro a; have := n.isLt; have := b.isLt; fin_cases a <;> simp [S10x1x128, S10x3x4096] <;> omega

/-- The rectangle of tile `n` of row `b` of the output block, in bounds. -/
theorem inbO (b : Fin 3) (n : Fin 32) : ∀ a, (![b.val, 0, 128 * n.val] : Fin 3 → ℕ) a + S1x40x128.size a ≤ S3x40x4096.size a := by
  intro a; have := n.isLt; have := b.isLt; fin_cases a <;> simp [S1x40x128, S3x40x4096] <;> omega

/-- The slice of the packed words of tile `n`, in bounds. -/
theorem slW (n : Fin 32) : S40x2048.Slices ![0, 128 * (n.val / 2)] S40x128 := by
  revert n; decide

/-- The lanes a tile's tokens are taken from: half of the 128 lanes of its words, each twice. -/
def laneIx (n : Fin 32) : IVec S40x128 32 := if n.val % 2 = 0 then k0_pay22 else k0_pay23

/-- One tile of scores: 128 tokens of one row. -/
def tile (arg0 v3 : BitVec 32) (w : IVec S40x2048 32) (n : Fin 32) (q : Vec F S1x40x160 .bf16) (s : Vec F S10x1x128 .f32) :
    FVec F S1x40x128 .f32 :=
  have v40 := laneIx n
  have v120 : IVec S40x128 32 := extractStridedSlice S40x128 ![0, 128 * (n.val / 2)] w (slW n)
  have v158 : IVec S40x128 32 := broadcast S40x128 0#32
  have v159 : IVec S40x128 1 := cmpi .slt v40 v158
  have v160 : IVec S40x128 32 := broadcast S40x128 128#32
  have v161 : IVec S40x128 32 := addi v40 v160
  have v162 : IVec S40x128 32 := select v159 v161 v40
  have v163 : IVec S40x128x1 32 := shapeCast S40x128x1 v162 shapeCasts_S40x128_S40x128x1
  have v164 : IVec S40x128 32 := shapeCast S40x128 v163 shapeCasts_S40x128x1_S40x128
  have v165 : IVec S40x128 32 := dynamicGather 1 v120 v164
  have v166 : IVec S40x128 32 := shli v165 k0_pay21
  have v167 : IVec S40x128 32 := broadcast S40x128 4042322160#32
  have v168 : IVec S40x128 32 := andi v166 v167
  have v169 : IVec S160x128 8 := bitcast S160x128 8 v168 bitcasts_S40x128_w32_S160x128_w8
  have v170 : FVec F S160x128 .bf16 := sitofp .bf16 v169
  have v172 : FVec F S40x160 .bf16 := shapeCast S40x160 q shapeCasts_S1x40x160_S40x160
  have cst_69 : FVec F S40x128 .f32 := constant S40x128 .f32 0x00000000#32
  have v173 : FVec F S40x128 .f32 := matmul dot_S40x160_S160x128_S40x128_1_0_0_1_n_n none v172 v170 cst_69
  let v174 : BitVec 32 := Scalar.muli arg0 4096#32
  let v175 : BitVec 32 := Scalar.addi v174 (BitVec.ofNat 32 (128 * n.val))
  have v176 : IVec S40x128 32 := iota .tc S40x128 32 [1] iota_S40x128_d1_w32
  have v177 : IVec S40x128 32 := broadcast S40x128 v175
  have v178 : IVec S40x128 32 := addi v177 v176
  have v180 : FVec F S10x128 .f32 := shapeCast S10x128 s shapeCasts_S10x1x128_S10x128
  have cst_73 : F .f32 := Scalar.ofBits .f32 0x3BB504F3#32
  have v181 : FVec F S10x128 .f32 := broadcast S10x128 cst_73
  have v182 : FVec F S10x128 .f32 := mulf v180 v181
  have v183 : FVec F S10x1x128 .f32 := shapeCast S10x1x128 v182 shapeCasts_S10x128_S10x1x128
  have v184 : FVec F S10x1x128 .f32 := shapeCast S10x1x128 v183 shapeCasts_S10x1x128_S10x1x128
  have v185 : FVec F S10x4x128 .f32 := broadcastTo S10x4x128 v184 broadcasts_S10x1x128_S10x4x128
  have v186 : FVec F S40x128 .f32 := shapeCast S40x128 v185 shapeCasts_S10x4x128_S40x128
  have v187 : IVec S40x128 32 := broadcast S40x128 v3
  have v188 : IVec S40x128 1 := cmpi .slt v178 v187
  have v189 : FVec F S40x128 .f32 := mulf v186 v173
  have cst_74 : F .f32 := Scalar.ofBits .f32 0x00000000#32
  have v190 : FVec F S40x128 .f32 := broadcast S40x128 cst_74
  have v191 : FVec F S40x128 .f32 := select v188 v189 v190
  have v194 : FVec F S1x40x128 .f32 := shapeCast S1x40x128 v191 shapeCasts_S40x128_S1x40x128
  v194

/-- Two of the kernel's own spellings of a tile are this one: an even tile, cut early, -/
theorem tile_even (arg0 v3 : BitVec 32) (v41 : Vec F S1x10x16x2048 .i8) (q : Vec F S1x40x160 .bf16) (s : Vec F S10x1x128 .f32) :
    k0_pay29 v3 (k0_pay26 v41 q) (k0_pay27 arg0) (k0_pay28 s) = tile arg0 v3 (k0_pay24 v41) 0 q s := rfl

/-- and an odd tile, cut late. -/
theorem tile_odd (arg0 v3 : BitVec 32) (v41 : Vec F S1x10x16x2048 .i8) (q : Vec F S1x40x160 .bf16) (s : Vec F S10x1x128 .f32) :
    k0_pay40 (k0_pay39 arg0 v3 k0_pay21 k0_pay23 (extractStridedSlice S40x128 ![0, 128] (k0_pay24 v41) slices_S40x2048_o0_128_S40x128) q s)
      = tile arg0 v3 (k0_pay24 v41) 3 q s := rfl

/-- The whole rectangle of a block of codes. -/
abbrev rectC : Rect S1x10x16x2048 :=
  Rect.unit (s := S1x10x16x2048) ![0, 0, 0, 0] S1x10x16x2048.size inb_S1x10x16x2048_S1x10x16x2048_0_0_0_0

/-- Row `b` of the output block: at token lane `y 2` the entry of its tile. -/
def rowVal (arg0 v3 : BitVec 32) (b : Fin 3) (q : Vec F S3x40x160 .bf16) (x : Vec F S1x10x16x2048 .i8) (s : Vec F S10x3x4096 .f32) :
    Vec F S3x40x4096 .f32 := fun y =>
  have hn : (y 2).val / 128 < 32 := by have : (y 2).val < 4096 := (y 2).isLt; omega
  tile arg0 v3 (k0_pay24 (View.ld x rectC)) ⟨(y 2).val / 128, hn⟩
    (View.ld q (Rect.unit (s := S3x40x160) ![b.val, 0, 0] S1x40x160.size (inbQ b)))
    (View.ld s (Rect.unit (s := S10x3x4096) ![0, b.val, 128 * ((y 2).val / 128)] S10x1x128.size (inbS b ⟨(y 2).val / 128, hn⟩)))
    (ix3 (0 : Fin 1) (y 1 : Fin 40) (⟨(y 2).val % 128, Nat.mod_lt _ (by decide)⟩ : Fin 128))

/-- The piece tile `n` of row `b` writes. -/
abbrev piece (arg0 v3 : BitVec 32) (b : Fin 3) (q : Vec F S3x40x160 .bf16) (x : Vec F S1x10x16x2048 .i8) (s : Vec F S10x3x4096 .f32)
    (n : Fin 32) : View.Piece (Elt F) S3x40x4096 .f32 :=
  ⟨Rect.unit (s := S3x40x4096) ![b.val, 0, 128 * n.val] S1x40x128.size (inbO b n),
    tile arg0 v3 (k0_pay24 (View.ld x rectC)) n
      (View.ld q (Rect.unit (s := S3x40x160) ![b.val, 0, 0] S1x40x160.size (inbQ b)))
      (View.ld s (Rect.unit (s := S10x3x4096) ![0, b.val, 128 * n.val] S10x1x128.size (inbS b n)))⟩

/-- The pieces of the first `k` tiles of row `b`, the newest first. -/
def pieces (arg0 v3 : BitVec 32) (b : Fin 3) (q : Vec F S3x40x160 .bf16) (x : Vec F S1x10x16x2048 .i8) (s : Vec F S10x3x4096 .f32) :
    (k : ℕ) → k ≤ 32 → List (View.Piece (Elt F) S3x40x4096 .f32)
  | 0, _ => []
  | k + 1, h => piece arg0 v3 b q x s ⟨k, h⟩ :: pieces arg0 v3 b q x s k (Nat.le_of_succ_le h)

/-- Every one of the first `k` pieces is some tile's. -/
theorem mem_pieces (arg0 v3 : BitVec 32) (b : Fin 3) (q : Vec F S3x40x160 .bf16) (x : Vec F S1x10x16x2048 .i8) (s : Vec F S10x3x4096 .f32) :
    ∀ (k : ℕ) (h : k ≤ 32) (p), p ∈ pieces arg0 v3 b q x s k h ↔ ∃ n : Fin 32, n.val < k ∧ p = piece arg0 v3 b q x s n := by
  intro k
  induction k with
  | zero => intro h p; simp [pieces]
  | succ k ih =>
    intro h p
    rw [pieces, List.mem_cons, ih]
    constructor
    · rintro (rfl | ⟨n, hn, rfl⟩)
      · exact ⟨_, Nat.lt_succ_self k, rfl⟩
      · exact ⟨n, by omega, rfl⟩
    · rintro ⟨n, hn, rfl⟩
      rcases Nat.lt_succ_iff_lt_or_eq.mp hn with hn | hn
      · exact Or.inr ⟨n, hn, rfl⟩
      · left; have : n = ⟨k, h⟩ := Fin.ext hn
        rw [this]

/-- A tile's piece agrees with the row. -/
theorem piece_eq (arg0 v3 : BitVec 32) (b : Fin 3) (q : Vec F S3x40x160 .bf16) (x : Vec F S1x10x16x2048 .i8) (s : Vec F S10x3x4096 .f32)
    (n : Fin 32) (z : S1x40x128.Idx) :
    tile arg0 v3 (k0_pay24 (View.ld x rectC)) n
      (View.ld q (Rect.unit (s := S3x40x160) ![b.val, 0, 0] S1x40x160.size (inbQ b)))
      (View.ld s (Rect.unit (s := S10x3x4096) ![0, b.val, 128 * n.val] S10x1x128.size (inbS b n))) z
    = rowVal arg0 v3 b q x s ((Rect.unit (s := S3x40x4096) ![b.val, 0, 128 * n.val] S1x40x128.size (inbO b n)).emb z) := by
  have h1 : (((Rect.unit (s := S3x40x4096) ![b.val, 0, 128 * n.val] S1x40x128.size (inbO b n)).emb z) 1).val = (z 1).val := by
    show 0 + 1 * (z 1).val = _; omega
  have h2 : (((Rect.unit (s := S3x40x4096) ![b.val, 0, 128 * n.val] S1x40x128.size (inbO b n)).emb z) 2).val = 128 * n.val + (z 2).val := by
    show 128 * n.val + 1 * (z 2).val = _; omega
  have hz2 : (z 2).val < 128 := (z 2).isLt
  have hz0 : (z 0).val < 1 := (z 0).isLt
  generalize (Rect.unit (s := S3x40x4096) ![b.val, 0, 128 * n.val] S1x40x128.size (inbO b n)).emb z = y at h1 h2
  unfold rowVal
  have hn : n = ⟨(y 2).val / 128, by have : (y 2).val < 4096 := (y 2).isLt; omega⟩ := Fin.ext (by show n.val = (y 2).val / 128; omega)
  have hzz : z = ix3 (0 : Fin 1) (y 1 : Fin 40) (⟨(y 2).val % 128, Nat.mod_lt _ (by decide)⟩ : Fin 128) := by
    funext a
    match a with
    | ⟨0, _⟩ => exact Fin.ext (by show (z 0).val = 0; omega)
    | ⟨1, _⟩ => exact Fin.ext h1.symm
    | ⟨2, _⟩ => exact Fin.ext (by show (z 2).val = (y 2).val % 128; omega)
  conv_lhs => rw [hzz]
  rw [hn]
  rfl

/-- Is a row's block of tokens within its length? -/
abbrev live (i : grid0.Coords) (v3 : BitVec 32) : Prop := k0_cond2 i v3 = 1#1

/-- The other branch's condition is the negation. -/
theorem dead_iff (i : grid0.Coords) (v3 : BitVec 32) : k0_cond3 i v3 = 1#1 ↔ ¬ live i v3 := by
  unfold live k0_cond3 k0_cond2
  simp only [Scalar.cmpi, Scalar.extui, WordCmp.cmpi_slt_eq, WordCmp.cmpi_sge_eq]
  generalize (Scalar.muli (BitVec.ofNat 32 (i 0).val) 4096#32).toInt = a
  generalize v3.toInt = b
  by_cases h : a < b
  · rw [decide_eq_true h, decide_eq_false (not_le.mpr h)]; decide
  · rw [decide_eq_false h, decide_eq_true (not_lt.mp h)]; decide

/-- The output block of one grid point. -/
def outVec (i : grid0.Coords) (wd : Fin 3 → BitVec 32) (q : Vec F S3x40x160 .bf16) (x : Fin 3 → Vec F S1x10x16x2048 .i8)
    (s : Vec F S10x3x4096 .f32) : Vec F S3x40x4096 .f32 := fun y =>
  if live i (wd (y 0)) then rowVal (BitVec.ofNat 32 (i 0).val) (wd (y 0)) (y 0) q (x (y 0)) s y else Scalar.ofBits .f32 0#32

/-- Row `b` of the scratch the first grid point fills. -/
def rowInit (x0 : Vec F S3x40x128 .bf16) (x1 : Vec F S1x160 .i32) (b : Fin 3) : FVec F S1x40x160 .bf16 :=
  qRow (View.ld x1 (Rect.unit (s := S1x160) ![0, 0] S1x160.size inb_S1x160_S1x160_0_0))
    (View.ld x0 (Rect.unit (s := S3x40x128) ![b.val, 0, 0] S1x40x128.size (inbX b)))

/-- The scratch the first grid point fills. -/
def qInit (x0 : Vec F S3x40x128 .bf16) (x1 : Vec F S1x160 .i32) : Vec F S3x40x160 .bf16 := fun y =>
  rowInit x0 x1 (y 0) (ix3 (0 : Fin 1) (y 1 : Fin 40) (y 2 : Fin 160))

/-- Reading through one guarded list of a row's tiles. -/
theorem read_live {sig' : RefSig} {κ : Kind} {sp : Space} (v : View sig' κ sp S3x40x4096 .f32) (C : Prop) [Decidable C] (X : v.ty.Contents (Elt F))
    (arg0 v3 : BitVec 32) (b : Fin 3) (q : Vec F S3x40x160 .bf16) (x : Vec F S1x10x16x2048 .i8) (s : Vec F S10x3x4096 .f32)
    (L : List (View.Piece (Elt F) S3x40x4096 .f32)) (hL : L = pieces arg0 v3 b q x s 32 le_rfl) (y : S3x40x4096.Idx) :
    v.read (Elt F) (if h : C then v.writes (Elt F) X L else X) y
      = if C ∧ (y 0).val = b.val then rowVal arg0 v3 b q x s y else v.read (Elt F) X y := by
  subst hL
  by_cases h : C
  · rw [dif_pos h]
    by_cases hb : (y 0).val = b.val
    · rw [if_pos ⟨h, hb⟩]
      refine View.read_writes_apply_of_pieces v X _ _ (fun p hp z => ?_) y ?_
      · obtain ⟨n, -, rfl⟩ := (mem_pieces ..).mp hp
        exact piece_eq arg0 v3 b q x s n z
      · have h2 : (y 2).val < 4096 := (y 2).isLt
        have h1 : (y 1).val < 40 := (y 1).isLt
        refine ⟨_, (mem_pieces ..).mpr ⟨⟨(y 2).val / 128, by omega⟩, by show (y 2).val / 128 < 32; omega, rfl⟩, ?_⟩
        refine (LoadRect.mem_set _).mpr fun a => ?_
        match a with
        | ⟨0, _⟩ => exact ⟨0, Nat.zero_lt_one, by show (y 0).val = b.val + 1 * 0; rw [hb]; omega⟩
        | ⟨1, _⟩ => exact ⟨(y 1).val, h1, by show (y 1).val = 0 + 1 * (y 1).val; omega⟩
        | ⟨2, _⟩ => exact ⟨(y 2).val % 128, Nat.mod_lt _ (by decide), by
            show (y 2).val = 128 * ((y 2).val / 128) + 1 * ((y 2).val % 128); omega⟩
    · rw [if_neg (fun hh => hb hh.2)]
      refine View.read_writes_apply_of_forall_not_mem v X y _ fun p hp => ?_
      obtain ⟨n, -, rfl⟩ := (mem_pieces ..).mp hp
      refine Rect.not_mem_set_of_axis _ y 0 b.val 1 rfl rfl rfl ?_
      omega
  · rw [dif_neg h, if_neg (fun hh => h hh.1)]

/-- The rectangle of row `b` of the output block, in bounds. -/
theorem inbB (b : Fin 3) : ∀ a, (![b.val, 0, 0] : Fin 3 → ℕ) a + S1x40x4096.size a ≤ S3x40x4096.size a := by
  intro a; fin_cases b <;> fin_cases a <;> decide

/-- Reading through one guarded store of a row of zeros. -/
theorem read_dead {sig' : RefSig} {κ : Kind} {sp : Space} (v : View sig' κ sp S3x40x4096 .f32) (C : Prop) [Decidable C] (X : v.ty.Contents (Elt F))
    (b : Fin 3) (L : List (View.Piece (Elt F) S3x40x4096 .f32))
    (hL : L = [⟨Rect.unit (s := S3x40x4096) ![b.val, 0, 0] S1x40x4096.size (inbB b), k0_pay2⟩]) (y : S3x40x4096.Idx) :
    v.read (Elt F) (if h : C then v.writes (Elt F) X L else X) y
      = if C ∧ (y 0).val = b.val then Scalar.ofBits .f32 0#32 else v.read (Elt F) X y := by
  subst hL
  by_cases h : C
  · rw [dif_pos h]
    by_cases hb : (y 0).val = b.val
    · rw [if_pos ⟨h, hb⟩]
      refine (View.read_writes_cons_hit_of_coords v X _ _ _ (ix3 (0 : Fin 1) (y 1 : Fin 40) (y 2 : Fin 4096)) y fun a => ?_).trans rfl
      match a with
      | ⟨0, _⟩ => show (y 0).val = b.val + 1 * 0; rw [hb]; omega
      | ⟨1, _⟩ => show (y 1).val = 0 + 1 * (y 1).val; omega
      | ⟨2, _⟩ => show (y 2).val = 0 + 1 * (y 2).val; omega
    · rw [if_neg (fun hh => hb hh.2)]
      refine (View.read_writes_cons_miss_of_axis v X _ _ y 0 b.val 1 rfl rfl rfl ?_).trans rfl
      omega
  · rw [dif_neg h, if_neg (fun hh => h hh.1)]

/-- The piece that fills row `b` of the scratch. -/
abbrev rowPiece (x0 : Vec F S3x40x128 .bf16) (x1 : Vec F S1x160 .i32) (b : Fin 3) : View.Piece (Elt F) S3x40x160 .bf16 :=
  ⟨Rect.unit (s := S3x40x160) ![b.val, 0, 0] S1x40x160.size (inbQ b), rowInit x0 x1 b⟩

/-- A row's piece, read where it lies, -/
theorem read_rowPiece {sig' : RefSig} {κ : Kind} {sp : Space} (v : View sig' κ sp S3x40x160 .bf16) (X : v.ty.Contents (Elt F))
    (x0 : Vec F S3x40x128 .bf16) (x1 : Vec F S1x160 .i32) (b : Fin 3) (L : List (View.Piece (Elt F) S3x40x160 .bf16)) (y : S3x40x160.Idx)
    (hb : (y 0).val = b.val) : v.read (Elt F) (v.writes (Elt F) X (rowPiece x0 x1 b :: L)) y = qInit x0 x1 y := by
  refine (View.read_writes_cons_hit_of_coords v X _ _ _ (ix3 (0 : Fin 1) (y 1 : Fin 40) (y 2 : Fin 160)) y fun a => ?_).trans ?_
  · match a with
    | ⟨0, _⟩ => show (y 0).val = b.val + 1 * 0; omega
    | ⟨1, _⟩ => show (y 1).val = 0 + 1 * (y 1).val; omega
    | ⟨2, _⟩ => show (y 2).val = 0 + 1 * (y 2).val; omega
  · have e : b = y 0 := Fin.ext hb.symm
    subst e
    rfl

/-- and where it does not lie. -/
theorem read_rowPiece_miss {sig' : RefSig} {κ : Kind} {sp : Space} (v : View sig' κ sp S3x40x160 .bf16) (X : v.ty.Contents (Elt F))
    (x0 : Vec F S3x40x128 .bf16) (x1 : Vec F S1x160 .i32) (b : Fin 3) (L : List (View.Piece (Elt F) S3x40x160 .bf16)) (y : S3x40x160.Idx)
    (hb : (y 0).val ≠ b.val) : v.read (Elt F) (v.writes (Elt F) X (rowPiece x0 x1 b :: L)) y = v.read (Elt F) (v.writes (Elt F) X L) y :=
  View.read_writes_cons_miss_of_axis v X _ _ y 0 b.val 1 rfl rfl rfl (by omega)

/-- Reading the scratch through the guarded stores of its three rows. -/
theorem read_init {sig' : RefSig} {κ : Kind} {sp : Space} (v : View sig' κ sp S3x40x160 .bf16) (C : Prop) [Decidable C] (X : v.ty.Contents (Elt F))
    (x0 : Vec F S3x40x128 .bf16) (x1 : Vec F S1x160 .i32) (L : List (View.Piece (Elt F) S3x40x160 .bf16))
    (hL : L = [rowPiece x0 x1 2, rowPiece x0 x1 1, rowPiece x0 x1 0]) :
    v.read (Elt F) (if h : C then v.writes (Elt F) X L else X) = if C then qInit x0 x1 else v.read (Elt F) X := by
  subst hL
  by_cases h : C
  · rw [dif_pos h, if_pos h]
    funext y
    have h0 : (y 0).val < 3 := (y 0).isLt
    by_cases h2 : (y 0).val = 2
    · exact read_rowPiece v X x0 x1 2 _ y h2
    · refine (read_rowPiece_miss v X x0 x1 2 _ y h2).trans ?_
      by_cases h1 : (y 0).val = 1
      · exact read_rowPiece v X x0 x1 1 _ y h1
      · refine (read_rowPiece_miss v X x0 x1 1 _ y h1).trans ?_
        exact read_rowPiece v X x0 x1 0 _ y (by show (y 0).val = 0; omega)
  · rw [dif_neg h, if_neg h]

end Cert.Scores.Gen
end
-- ==== Proof.ScoresBody.lean ====
/- One run of the scores body. -/
module

public import proofs.«01_k».proof.Proof.ScoresTile

@[expose] public section

set_option maxRecDepth 16384

noncomputable section

namespace Cert.Scores.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The three lengths, as the body reads them from the table. -/
def wd (c : Dev nD) (xt0 : TbBuf0 (F := F) c tbM0_0) : Fin 3 → BitVec 32 :=
  ![(tbM0_0.view.readAt (Elt F) (Rect.unit (s := S3) ![0] S1.size inb_S3_S1_0).toLoadRect xt0 (Shape.Idx.first (numel1_S1.symm ▸ Nat.one_pos))),
    (tbM0_0.view.readAt (Elt F) (Rect.unit (s := S3) ![1] S1.size inb_S3_S1_1).toLoadRect xt0 (Shape.Idx.first (numel1_S1.symm ▸ Nat.one_pos))),
    (tbM0_0.view.readAt (Elt F) (Rect.unit (s := S3) ![2] S1.size inb_S3_S1_2).toLoadRect xt0 (Shape.Idx.first (numel1_S1.symm ▸ Nat.one_pos)))]

/-- What a grid point leaves in the scratch: the spread queries at the first, what was there at the others. -/
def qAfter (i : grid0.Coords) (x0 : Vec F S3x40x128 .bf16) (x1 : Vec F S1x160 .i32) (ds : Vec F S3x40x160 .bf16) : Vec F S3x40x160 .bf16 :=
  if cond0_0 i then qInit x0 x1 else ds

/-- The scratch buffer after the guarded stores that fill it. -/
def scrAfter (i : grid0.Coords) (arg9 : Memref sig .tc .vmem S3x40x160 .bf16) (harg9 : arg9.IsWhole) (x0 : Vec F S3x40x128 .bf16)
    (x1 : Vec F S1x160 .i32) (ds : Vec F S3x40x160 .bf16) : arg9.view.ty.Contents (Elt F) :=
  if h : cond0_0 i then arg9.view.writes (Elt F) (harg9.unread ds) [rowPiece x0 x1 2, rowPiece x0 x1 1, rowPiece x0 x1 0] else harg9.unread ds

/-- Read back, it is that. -/
theorem read_scrAfter (i : grid0.Coords) (arg9 : Memref sig .tc .vmem S3x40x160 .bf16) (harg9 : arg9.IsWhole) (x0 : Vec F S3x40x128 .bf16)
    (x1 : Vec F S1x160 .i32) (ds : Vec F S3x40x160 .bf16) : arg9.view.read (Elt F) (scrAfter i arg9 harg9 x0 x1 ds) = qAfter i x0 x1 ds := by
  unfold scrAfter qAfter
  refine (read_init arg9.view (cond0_0 i) (harg9.unread ds) x0 x1 _ rfl).trans ?_
  rw [harg9.read_unread]

/-- A dead row's entries. -/
theorem outVec_dead (i : grid0.Coords) (wd : Fin 3 → BitVec 32) (q : Vec F S3x40x160 .bf16) (x : Fin 3 → Vec F S1x10x16x2048 .i8)
    (s : Vec F S10x3x4096 .f32) (y : S3x40x4096.Idx) (b : Fin 3) (hy : (y 0).val = b.val) (h : ¬ live i (wd b)) :
    outVec i wd q x s y = Scalar.ofBits .f32 0#32 := by
  have e : b = y 0 := Fin.ext hy.symm
  subst e
  exact if_neg h

/-- A live row's entries. -/
theorem outVec_live (i : grid0.Coords) (wd : Fin 3 → BitVec 32) (q : Vec F S3x40x160 .bf16) (x : Fin 3 → Vec F S1x10x16x2048 .i8)
    (s : Vec F S10x3x4096 .f32) (y : S3x40x4096.Idx) (b : Fin 3) (hy : (y 0).val = b.val) (h : live i (wd b)) :
    outVec i wd q x s y = rowVal (BitVec.ofNat 32 (i 0).val) (wd b) b q (x b) s y := by
  have e : b = y 0 := Fin.ext hy.symm
  subst e
  exact if_pos h

/-- The words the later rows test are the first row's at their lengths. -/
theorem cond_eq (i : grid0.Coords) (v : BitVec 32) : k0_cond4 i v = k0_cond2 i v ∧ k0_cond6 i v = k0_cond2 i v ∧ k0_cond5 i v = k0_cond3 i v ∧ k0_cond7 i v = k0_cond3 i v :=
  ⟨rfl, rfl, rfl, rfl⟩

/-- The output buffer after the six guarded regions reads as the output block. -/
theorem read_fold {sig' : RefSig} {κ : Kind} {sp : Space} (v : View sig' κ sp S3x40x4096 .f32) (f : v.ty.Contents (Elt F))
    (i : grid0.Coords) (w0 w1 w2 : BitVec 32) (q : Vec F S3x40x160 .bf16) (x2 x3 x4 : Vec F S1x10x16x2048 .i8) (s : Vec F S10x3x4096 .f32)
    (L2 L3 L4 L5 L6 L7 : List (View.Piece (Elt F) S3x40x4096 .f32))
    (h2 : L2 = pieces (BitVec.ofNat 32 (i 0).val) w0 0 q x2 s 32 le_rfl)
    (h3 : L3 = [⟨Rect.unit (s := S3x40x4096) ![(0 : Fin 3).val, 0, 0] S1x40x4096.size (inbB 0), k0_pay2⟩])
    (h4 : L4 = pieces (BitVec.ofNat 32 (i 0).val) w1 1 q x3 s 32 le_rfl)
    (h5 : L5 = [⟨Rect.unit (s := S3x40x4096) ![(1 : Fin 3).val, 0, 0] S1x40x4096.size (inbB 1), k0_pay2⟩])
    (h6 : L6 = pieces (BitVec.ofNat 32 (i 0).val) w2 2 q x4 s 32 le_rfl)
    (h7 : L7 = [⟨Rect.unit (s := S3x40x4096) ![(2 : Fin 3).val, 0, 0] S1x40x4096.size (inbB 2), k0_pay2⟩])
    (X2 X3 X4 X5 X6 X7 : v.ty.Contents (Elt F))
    (e2 : X2 = if h : k0_cond2 i w0 = 1#1 then v.writes (Elt F) f L2 else f)
    (e3 : X3 = if h : k0_cond3 i w0 = 1#1 then v.writes (Elt F) X2 L3 else X2)
    (e4 : X4 = if h : k0_cond4 i w1 = 1#1 then v.writes (Elt F) X3 L4 else X3)
    (e5 : X5 = if h : k0_cond5 i w1 = 1#1 then v.writes (Elt F) X4 L5 else X4)
    (e6 : X6 = if h : k0_cond6 i w2 = 1#1 then v.writes (Elt F) X5 L6 else X5)
    (e7 : X7 = if h : k0_cond7 i w2 = 1#1 then v.writes (Elt F) X6 L7 else X6) :
    v.read (Elt F) X7 = outVec i ![w0, w1, w2] q ![x2, x3, x4] s := by
  funext y
  have hy : (y 0).val < 3 := (y 0).isLt
  rw [e7, read_dead v _ X6 2 L7 h7 y, (cond_eq i w2).2.2.2, e6, read_live v _ X5 _ w2 2 q x4 s L6 h6 y, (cond_eq i w2).2.1,
    e5, read_dead v _ X4 1 L5 h5 y, (cond_eq i w1).2.2.1, e4, read_live v _ X3 _ w1 1 q x3 s L4 h4 y, (cond_eq i w1).1,
    e3, read_dead v _ X2 0 L3 h3 y, e2, read_live v _ f _ w0 0 q x2 s L2 h2 y]
  obtain h0 | h0 | h0 : (y 0).val = (0 : Fin 3).val ∨ (y 0).val = (1 : Fin 3).val ∨ (y 0).val = (2 : Fin 3).val := by
    show (y 0).val = 0 ∨ (y 0).val = 1 ∨ (y 0).val = 2
    omega
  · have n1 : (y 0).val ≠ (1 : Fin 3).val := by rw [h0]; decide
    have n2 : (y 0).val ≠ (2 : Fin 3).val := by rw [h0]; decide
    rw [if_neg (fun h => n2 h.2), if_neg (fun h => n2 h.2), if_neg (fun h => n1 h.2), if_neg (fun h => n1 h.2)]
    by_cases hl : live i w0
    · rw [if_neg (fun h => (dead_iff i w0).mp h.1 hl), if_pos ⟨hl, h0⟩]
      exact (outVec_live i ![w0, w1, w2] q ![x2, x3, x4] s y 0 h0 hl).symm
    · rw [if_pos ⟨(dead_iff i w0).mpr hl, h0⟩]
      exact (outVec_dead i ![w0, w1, w2] q ![x2, x3, x4] s y 0 h0 hl).symm
  · have n2 : (y 0).val ≠ (2 : Fin 3).val := by rw [h0]; decide
    rw [if_neg (fun h => n2 h.2), if_neg (fun h => n2 h.2)]
    by_cases hl : live i w1
    · rw [if_neg (fun h => (dead_iff i w1).mp h.1 hl), if_pos ⟨hl, h0⟩]
      exact (outVec_live i ![w0, w1, w2] q ![x2, x3, x4] s y 1 h0 hl).symm
    · rw [if_pos ⟨(dead_iff i w1).mpr hl, h0⟩]
      exact (outVec_dead i ![w0, w1, w2] q ![x2, x3, x4] s y 1 h0 hl).symm
  · by_cases hl : live i w2
    · rw [if_neg (fun h => (dead_iff i w2).mp h.1 hl), if_pos ⟨hl, h0⟩]
      exact (outVec_live i ![w0, w1, w2] q ![x2, x3, x4] s y 2 h0 hl).symm
    · rw [if_pos ⟨(dead_iff i w2).mpr hl, h0⟩]
      exact (outVec_dead i ![w0, w1, w2] q ![x2, x3, x4] s y 2 h0 hl).symm

set_option maxHeartbeats 4000000 in
/-- One run of the body: from its input blocks, the lengths and the scratch, to its output block and the scratch after it. -/
theorem body_run (c : Dev nD) (i : grid0.Coords) (arg2 : Memref sig .tc .vmem S3x40x128 .bf16) (harg2 : arg2.IsWhole) (arg3 : Memref sig .tc .vmem S1x160 .i32) (harg3 : arg3.IsWhole) (arg4 : Memref sig .tc .vmem S1x10x16x2048 .i8) (harg4 : arg4.IsWhole) (arg5 : Memref sig .tc .vmem S1x10x16x2048 .i8) (harg5 : arg5.IsWhole) (arg6 : Memref sig .tc .vmem S1x10x16x2048 .i8) (harg6 : arg6.IsWhole) (arg7 : Memref sig .tc .vmem S10x3x4096 .f32) (harg7 : arg7.IsWhole) (arg8 : Memref sig .tc .vmem S3x40x4096 .f32) (harg8 : arg8.IsWhole) (arg9 : Memref sig .tc .vmem S3x40x160 .bf16) (harg9 : arg9.IsWhole)
    (x0 : Vec F S3x40x128 .bf16) (x1 : Vec F S1x160 .i32) (x2 : Vec F S1x10x16x2048 .i8) (x3 : Vec F S1x10x16x2048 .i8) (x4 : Vec F S1x10x16x2048 .i8) (x5 : Vec F S10x3x4096 .f32)
    (xt0 : TbBuf0 (F := F) c tbM0_0) (ds : Vec F S3x40x160 .bf16) (E : Set ℕ) (K : PUnit → sProp 𝕄) :
  iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare ds ∗ tbPt0 c tbM0_0 xt0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (outVec i (wd c xt0) (qAfter i x0 x1 ds) ![x2, x3, x4] x5) ∗ owns (c : Thread nD τ) arg9 fullShare (qAfter i x0 x1 ds) ∗ tbPt0 c tbM0_0 xt0) -∗ K ⟨⟩))
   ⊢ wp frame (wpE (defs₀ (F := F)) Variants.none c none) E (cc0_label_scores i tbM0_0 htbM0_0 arg2 harg2 arg3 harg3 arg4 harg4 arg5 harg5 arg6 harg6 arg7 harg7 arg8 harg8 arg9 harg9) K := by
  simp only [cc0_label_scores_eq_skeleton]; unfold cc0_label_scores_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, HT0, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hfs0
  sl_exec_parts
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  have hq := read_scrAfter i arg9 harg9 (arg2.view.read (Elt F) (harg2.unread x0)) (arg3.view.read (Elt F) (harg3.unread x1)) ds
  isplitl [H6]
  · iexists _; isplitr; swap
    · iexact H6
    · ipureintro
      refine (read_fold arg8.view _ i (wd c xt0 0) (wd c xt0 1) (wd c xt0 2) (arg9.view.read (Elt F) (scrAfter i arg9 harg9 (arg2.view.read (Elt F) (harg2.unread x0)) (arg3.view.read (Elt F) (harg3.unread x1)) ds)) (arg4.view.read (Elt F) (harg4.unread x2)) (arg5.view.read (Elt F) (harg5.unread x3)) (arg6.view.read (Elt F) (harg6.unread x4)) (arg7.view.read (Elt F) (harg7.unread x5)) _ _ _ _ _ _ ?h2 ?h3 ?h4 ?h5 ?h6 ?h7 _ _ _ _ _ _ rfl rfl rfl rfl rfl rfl).trans ?_
      case h3 => rfl
      case h5 => rfl
      case h7 => rfl
      case h2 => rfl
      case h4 => rfl
      case h6 => rfl
      rw [hq, harg2.read_unread, harg3.read_unread, harg4.read_unread, harg5.read_unread, harg6.read_unread, harg7.read_unread]
      have hw : (![wd c xt0 0, wd c xt0 1, wd c xt0 2] : Fin 3 → BitVec 32) = wd c xt0 := by
        funext b; fin_cases b <;> rfl
      rw [hw]
  isplitl [HS0]
  · iexists _; isplitr; swap
    · iexact HS0
    · ipureintro
      refine (show _ = arg9.view.read (Elt F) (scrAfter i arg9 harg9 (arg2.view.read (Elt F) (harg2.unread x0)) (arg3.view.read (Elt F) (harg3.unread x1)) ds) from rfl).trans ?_
      rw [hq, harg2.read_unread, harg3.read_unread]
  iexact HT0

end Cert.Scores.Gen
end
-- ==== Proof.ScoresSound.lean ====
/- The scores launch: its proof data and the body at every point. -/
module

public import proofs.«01_k».proof.Proof.ScoresBody

@[expose] public section

set_option maxRecDepth 16384

noncomputable section

namespace Cert.Scores.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The scratch from the first grid point on: the spread queries of the first point's blocks. -/
def q0 (hO : Ok m) (c : Dev nD) : Vec F S3x40x160 .bf16 :=
  qInit (iblk m hO c 0 ⟨0, by rw [show (cfgM m hO).N = 16 from N_0]; decide⟩) (iblk m hO c 1 ⟨0, by rw [show (cfgM m hO).N = 16 from N_0]; decide⟩)

/-- What the output's staging buffer and the carried scratch hold after the body at position `n`. -/
def outsAt0 (hO : Ok m) (c : Dev nD) (n : ℕ) (hn : n < (cfgM m hO).N) : Vec F S3x40x4096 .f32 × Vec F S3x40x160 .bf16 :=
  (outVec (grid0.coords ⟨n, hn⟩) (wd c (tbl m 0)) (q0 m hO c) ![iblk m hO c 2 ⟨n, hn⟩, iblk m hO c 3 ⟨n, hn⟩, iblk m hO c 4 ⟨n, hn⟩] (iblk m hO c 5 ⟨n, hn⟩), q0 m hO c)

/-- The first point leaves the spread queries in the scratch, -/
theorem qAfter_first (hO : Ok m) (c : Dev nD) (t : Fin (cfgM m hO).N) (ht : t.val = 0) (ds : Vec F S3x40x160 .bf16) :
    qAfter (grid0.coords t) (iblk m hO c 0 t) (iblk m hO c 1 t) ds = q0 m hO c := by
  have hc : cond0_0 (grid0.coords t) := (hcond0_0 t).mpr (by rw [ht])
  have e : t = ⟨0, by rw [show (cfgM m hO).N = 16 from N_0]; decide⟩ := Fin.ext ht
  subst e
  exact if_pos hc

/-- and every other point leaves it as it was. -/
theorem qAfter_later (hO : Ok m) (c : Dev nD) (t : Fin (cfgM m hO).N) (ht : t.val ≠ 0)
    (ds : Vec F S3x40x160 .bf16) : qAfter (grid0.coords t) (iblk m hO c 0 t) (iblk m hO c 1 t) ds = ds := by
  have hN : t.val < 16 := lt_of_lt_of_eq t.isLt (show (cfgM m hO).N = 16 from N_0)
  have hc : ¬ cond0_0 (grid0.coords t) := fun h => by have := (hcond0_0 t).mp h; omega
  exact if_neg hc

/-- The region invariant before position `n` with the scratch the kernel carries between points: before the first point the
    class's (Lib/Pipeline/Frame.lean `ΦA`: every scratch at anything); afterwards the scoped rest with each carried scratch
    at what the point before left in it (`outsAt0`'s scratch components), the others at anything, and the generator register
    at some state. -/
def PhiS (hO : Ok m) (c : Dev nD) : (n : ℕ) → n ≤ (cfgM m hO).N → sProp 𝕄
  | 0, _ => iprop(Pipeline.ΦA spec0 c ∗ Pipeline.ΦT pre0 (tbl m) c)
  | n + 1, hn => iprop(iprop(iprop(owns (c : Thread nD τ) scM0_0 fullShare ((outsAt0 m hO c n hn).2)) ∗ (∃ r, prngReg c r)) ∗ Pipeline.ΦT pre0 (tbl m) c)

/-- Before the first point nothing is carried: the scratch at anything. -/
theorem PhiS_zero (hO : Ok m) (c : Dev nD) (n : ℕ) (h : n ≤ (cfgM m hO).N) (hz : n = 0) : PhiS m hO c n h = iprop(Pipeline.ΦA spec0 c ∗ Pipeline.ΦT pre0 (tbl m) c) := by
  subst hz; rfl

/-- After point `n` (before point `n + 1`): the carried scratch at that point's contents. -/
theorem PhiS_succ (hO : Ok m) (c : Dev nD) (n : ℕ) (hn : n < (cfgM m hO).N) :
    PhiS m hO c (n + 1) hn = iprop(iprop(iprop(owns (c : Thread nD τ) scM0_0 fullShare ((outsAt0 m hO c n hn).2)) ∗ (∃ r, prngReg c r)) ∗ Pipeline.ΦT pre0 (tbl m) c) := rfl

/-- Before a point that is not the first: the carried scratch at what the point before left. -/
theorem PhiS_pos (hO : Ok m) (c : Dev nD) (n : ℕ) (h : n ≤ (cfgM m hO).N) (hz : n ≠ 0) :
    PhiS m hO c n h = iprop(iprop(iprop(owns (c : Thread nD τ) scM0_0 fullShare ((outsAt0 m hO c (n - 1) (by omega)).2)) ∗ (∃ r, prngReg c r)) ∗ Pipeline.ΦT pre0 (tbl m) c) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register) and the tables' halves (`ΦT`); nothing owed;
    each input's share of its array
    (`Pipeline.shareOf`: the full share of an array several windows stage, dealt among them). -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => (outsAt0 m hO c t.val t.isLt).1
  Φ t := PhiS m hO c t.val (Nat.le_of_lt_succ t.isLt)
  q w := Pipeline.shareOf spec0 w
  owed _ := 0

/-- The proof data's arrays are the region-entry contents: the proof data's definition projected (`dsimp`), so that
    `V` — a fold over @main's host prefix, long for some programs — is never unfolded to check it. -/
theorem A_eq (hO : Ok m) (c : Dev nD) (w : Fin (cfgM m hO).W) : (dats m hO 0 c).A w = V m c (Pipeline.arrRef spec0 w) := by
  dsimp only [dats]

/-- The invariant at a point's start (the proof data at `t.castSucc`), restated at `t.val`. -/
theorem PhiS_castSucc (hO : Ok m) (c : Dev nD) (t : Fin (cfgM m hO).N) :
    (dats m hO 0 c).Φ t.castSucc = PhiS m hO c t.val (Nat.le_of_lt t.isLt) := by
  dsimp only [dats]; exact Pipeline.Dat.Φ_castSucc (PhiS m hO c) t

/-- What the body leaves, window by window (the proof data's `match` reduced by `dsimp`). -/
theorem after0_0 (hO : Ok m) (c : Dev nD) (t : Fin (cfgM m hO).N) : (dats m hO 0 c).after 0 t = iblk m hO c 0 t := by dsimp only [dats]; try rfl
/-- The body leaves the label channels as they were. -/
theorem after0_1 (hO : Ok m) (c : Dev nD) (t : Fin (cfgM m hO).N) : (dats m hO 0 c).after 1 t = iblk m hO c 1 t := by dsimp only [dats]; try rfl
/-- The body leaves the first batch's codes as they were. -/
theorem after0_2 (hO : Ok m) (c : Dev nD) (t : Fin (cfgM m hO).N) : (dats m hO 0 c).after 2 t = iblk m hO c 2 t := by dsimp only [dats]; try rfl
/-- The body leaves the second batch's codes as they were. -/
theorem after0_3 (hO : Ok m) (c : Dev nD) (t : Fin (cfgM m hO).N) : (dats m hO 0 c).after 3 t = iblk m hO c 3 t := by dsimp only [dats]; try rfl
/-- The body leaves the third batch's codes as they were. -/
theorem after0_4 (hO : Ok m) (c : Dev nD) (t : Fin (cfgM m hO).N) : (dats m hO 0 c).after 4 t = iblk m hO c 4 t := by dsimp only [dats]; try rfl
/-- The body leaves the scales as they were. -/
theorem after0_5 (hO : Ok m) (c : Dev nD) (t : Fin (cfgM m hO).N) : (dats m hO 0 c).after 5 t = iblk m hO c 5 t := by dsimp only [dats]; try rfl
/-- The body leaves its scores in the output's buffer. -/
theorem after0_6 (hO : Ok m) (c : Dev nD) (t : Fin (cfgM m hO).N) : (dats m hO 0 c).after 6 t = (outsAt0 m hO c t.val t.isLt).1 := by dsimp only [dats]; try rfl

/-- Each input's current staging buffer holds its block at every point, fetched there or not (`beforeK_W_of`). -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
/-- The label channels are in their staging buffer at every point. -/
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
/-- The first batch's codes are in their staging buffer at every point. -/
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
/-- The second batch's codes are in their staging buffer at every point. -/
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
/-- The third batch's codes are in their staging buffer at every point. -/
theorem before0_4 (hO : Ok m) (c : Dev nD) (t : Fin (cfgM m hO).N) (d) : (dats m hO 0 c).before 4 t d = iblk m hO c 4 t :=
  before0_4_of m hO (dats m hO 0 c) (A_eq m hO c 4) (after0_4 m hO c) t d
/-- The scales are in their staging buffer at every point. -/
theorem before0_5 (hO : Ok m) (c : Dev nD) (t : Fin (cfgM m hO).N) (d) : (dats m hO 0 c).before 5 t d = iblk m hO c 5 t :=
  before0_5_of m hO (dats m hO 0 c) (A_eq m hO c 5) (after0_5 m hO c) t d

/-! ## The body obligation, at a generic point -/

/-- What the body is called with at point `t` (Lib/Pipeline.lean `BodyObligation`'s precondition, the windows one by one), -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d))
    ∗ (∃ d, owns (c : Thread nD τ) (ms0_6 m hO t) fullShare ((dats m hO 0 c).before 6 t d)))

/-- and what it returns. -/
def bodyPost (hO : Ok m) (c : Dev nD) (t : Fin (cfgM m hO).N) : sProp 𝕄 :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ owns (c : Thread nD τ) (ms0_3 m hO t) fullShare ((dats m hO 0 c).after 3 t)
    ∗ owns (c : Thread nD τ) (ms0_4 m hO t) fullShare ((dats m hO 0 c).after 4 t)
    ∗ owns (c : Thread nD τ) (ms0_5 m hO t) fullShare ((dats m hO 0 c).after 5 t)
    ∗ owns (c : Thread nD τ) (ms0_6 m hO t) fullShare ((dats m hO 0 c).after 6 t))

set_option maxHeartbeats 3200000 in
/-- The body at any point: the inputs' memrefs hold their blocks, so the run applies; the invariant hands the body the scratch (at anything at the
    first point) and takes it back at the spread queries. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3, before0_4, before0_5]
  rw [show (dats m hO 0 c).owesAt () t.succ = (dats m hO 0 c).owesAt () t.castSucc from rfl,
    after0_0, after0_1, after0_2, after0_3, after0_4, after0_5, after0_6]
  rw [show (dats m hO 0 c).Φ t.succ = PhiS m hO c (t.val + 1) t.isLt from rfl, PhiS_succ, PhiT0_eq]
  unfold outsAt0
  dsimp only
  by_cases hz : t.val = 0
  · rw [PhiS_castSucc m hO c t, PhiS_zero m hO c _ _ hz, PhiT0_eq, PhiA0_eq]
    iintro ⟨⟨⟨⟨%ds, HS0⟩, Hg⟩, HT0⟩, Ho, ⟨%d0, H0⟩, ⟨%d1, H1⟩, ⟨%d2, H2⟩, ⟨%d3, H3⟩, ⟨%d4, H4⟩, ⟨%d5, H5⟩, ⟨%d6, H6⟩⟩
    iapply (body_run c (grid0.coords t) _ (hs0_0 m hO t) _ (hs0_1 m hO t) _ (hs0_2 m hO t) _ (hs0_3 m hO t) _ (hs0_4 m hO t) _ (hs0_5 m hO t) _ (hs0_6 m hO t) scM0_0 (Memref.isWhole_whole _) (iblk m hO c 0 t) (iblk m hO c 1 t) (iblk m hO c 2 t) (iblk m hO c 3 t) (iblk m hO c 4 t) (iblk m hO c 5 t) (tbl m 0) _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS0]; · iexact HS0
    isplitl [HT0]; · iexact HT0
    rw [qAfter_first m hO c t hz]
    iintro ⟨H0, H1, H2, H3, H4, H5, H6, HS0, HT0⟩
    isplitl [HS0 Hg HT0]
    · isplitl [HS0 Hg]
      · isplitl [HS0]
        · iexact HS0
        iexact Hg
      iexact HT0
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · rw [PhiS_castSucc m hO c t, PhiS_pos m hO c _ _ hz, PhiT0_eq]
    unfold outsAt0
    dsimp only
    iintro ⟨⟨⟨HS0, Hg⟩, HT0⟩, Ho, ⟨%d0, H0⟩, ⟨%d1, H1⟩, ⟨%d2, H2⟩, ⟨%d3, H3⟩, ⟨%d4, H4⟩, ⟨%d5, H5⟩, ⟨%d6, H6⟩⟩
    iapply (body_run c (grid0.coords t) _ (hs0_0 m hO t) _ (hs0_1 m hO t) _ (hs0_2 m hO t) _ (hs0_3 m hO t) _ (hs0_4 m hO t) _ (hs0_5 m hO t) _ (hs0_6 m hO t) scM0_0 (Memref.isWhole_whole _) (iblk m hO c 0 t) (iblk m hO c 1 t) (iblk m hO c 2 t) (iblk m hO c 3 t) (iblk m hO c 4 t) (iblk m hO c 5 t) (tbl m 0) _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS0]; · iexact HS0
    isplitl [HT0]; · iexact HT0
    rw [qAfter_later m hO c t hz]
    iintro ⟨H0, H1, H2, H3, H4, H5, H6, HS0, HT0⟩
    isplitl [HS0 Hg HT0]
    · isplitl [HS0 Hg]
      · isplitl [HS0]
        · iexact HS0
        iexact Hg
      iexact HT0
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

end Cert.Scores.Gen

end
-- ==== Proof.ScoresFrame.lean ====
/- The frame of the scores launch: the body obligation, the run and the unchanged arguments. -/
module

public import proofs.«01_k».proof.Proof.ScoresSound
public import Idealize.ShloMosaic.Lib.Claim

@[expose] public section

set_option maxRecDepth 16384

noncomputable section

namespace Cert.Scores.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The output window is stored at every point: of the two conditions of a row one holds. -/
theorem idle0_6 (pf : pre0.Contents (Elt F)) (i : grid0.Coords) : idle0 pf 6 i = false := by
  have h : ∀ v : BitVec 32, (!(k0_cond2 i v == 1#1) && !(k0_cond3 i v == 1#1)) = false := fun v => by
    by_cases hl : live i v
    · rw [show (k0_cond2 i v == 1#1) = true from beq_iff_eq.mpr hl]; rfl
    · rw [show (k0_cond3 i v == 1#1) = true from beq_iff_eq.mpr ((dead_iff i v).mpr hl), Bool.not_true, Bool.and_false]
  have g : ∀ a b c d e f : Bool, (!a && !b) = false → (!a && !b && !c && !d && !e && !f) = false := by decide
  exact g _ _ _ _ _ _ (h _)

/-- The same of the launch's own configuration. -/
theorem idle6 (hO : Ok m) (i : grid0.Coords) : (cfgM m hO).idle 6 i = false := by
  have e : (cfgM m hO).idle = idle0 (tbl m) := rfl
  exact (congrFun (congrFun e 6) i).trans (idle0_6 (tbl m) i)

/-- The library's body obligation, at every point: the body's triple restated (Lib/Pipeline/FrameBody.lean `triple_restated`). -/
theorem body_obligation (hO : Ok m) (c : Dev nD) : BodyObligation (dats (F := F) m hO 0 c) (defs₀ (F := F)) Variants.none () Set.univ := fun t => by
  rw [bigSep_W0, bigSep_W0, defs₀_row m hO]
  refine triple_restated (sound_body m hO c t) rfl .rfl fun _ => ?_
  rw [idle6 m hO]
  exact .rfl

/-- What the launch hands the region (`ΦA`, the tables beside it) is the invariant before the first point. -/
theorem hin (hO : Ok m) (c : Dev nD) : iprop(Pipeline.ΦA spec0 c ∗ Pipeline.ΦT pre0 (tbl m) c) ⊢ (dats m hO 0 c).Φ 0 := by
  rw [show (dats m hO 0 c).Φ 0 = PhiS m hO c 0 (Nat.zero_le _) from rfl, PhiS_zero m hO c 0 _ rfl]
  try exact Idealize.SL.BI.Entails.refl _

/-- After any point but the first the invariant gives `ΦA` back: the carried scratch's named contents are forgotten (and the tables' halves dropped). -/
theorem Phi_out (hO : Ok m) (c : Dev nD) (t : Fin ((cfgM m hO).N + 1)) (ht : t.val ≠ 0) : (dats m hO 0 c).Φ t ⊢ Pipeline.ΦA spec0 c := by
  rw [show (dats m hO 0 c).Φ t = PhiS m hO c t.val (Nat.le_of_lt_succ t.isLt) from rfl, PhiS_pos m hO c _ _ ht, PhiA0_eq]
  iintro ⟨⟨HS0, Hg⟩, -⟩
  isplitl [HS0]
  · iexists _; iexact HS0
  iexact Hg

/-- The same after the last point. -/
theorem hout (hO : Ok m) (c : Dev nD) : (dats m hO 0 c).Φ (Fin.last (cfgM m hO).N) ⊢ Pipeline.ΦA spec0 c :=
  Phi_out m hO c _ (by rw [Fin.val_last]; have : (cfgM m hO).N = 16 := N_0; omega)

/-! ## The run and the frame -/

-- `θ_run_frameP_track_shared`'s implicit arguments are found by unifying its conclusion with this one, which takes unfolding plain
-- definitions in a metavariable's type
set_option backward.isDefEq.respectTransparency.types false in
/-- THE LAUNCH: the run, every semaphore counter of the machine at zero at every final state. -/
theorem run_main_quiescent (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP_track_shared (Q' := _) pcfgs (fun _ => adm m hO) (dats m hO) (0 : Fin 1) launch₀0 defs₀ Variants.none m ρ main
    (hbody := fun c => (body_obligation m hO c).loose) (hq := fun _ _ _ => rfl)
    (howed := fun _ _ => rfl) (V := V m) (hmain := hmain m Variants.none) (hA := A_eq m hO) (hpf := V_pre m)
    (hin := hin m hO) (hout := hout m hO)

/-- For any values, from any memory with zero counters: every weakly fair execution of @main on the
    TensorCores terminates, and every final state has every array of the pipeline at what the library computes from the
    proof data and every other unscoped buffer as the region found it (Lib/Pipeline/Frame.lean `FramePost`). -/
theorem run_main (hO : Ok m) : θ_run defs (onTc (τ := τ) (main (F := F))) (s₀ m ρ) (Pipeline.FramePost (Pipeline.pin pcfgs fun _ => adm m hO) (dats m hO) 0 (V m)) :=
  (θ_run defs _ _).mono (fun _ h => h.1) (run_main_quiescent m ρ hO)

/-- `frame` without the counters: the argument arrays end unchanged. -/
theorem unchanged (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ hO (dats m hO) (A_eq m hO) (run_main m ρ hO)

/-- The frame: the argument arrays end unchanged and the counters end at zero. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ hO) ((θ_run defs _ _).mono (fun _ h => h.2) (run_main_quiescent m ρ hO))

end Cert.Scores.Gen

end
-- ==== Proof.Codes.lean ====
/- The codes that a 32-bit word carries, read the two ways the programs read them: the kernel reinterprets a block of words
   as four times as many rows of 8-bit codes; the reference shifts and masks. -/
module

public import Idealize.ShloMosaic.Lib.BitcastFour
public import Idealize.ShloMosaic.Lib.Pointwise

@[expose] public section

noncomputable section

namespace Cert.Codes

open Idealize.ShloMosaic

/-- Byte `i` of a word, the lowest byte first. -/
def byte (w : BitVec 32) (i : Nat) : BitVec 8 := w.extractLsb' (8 * i) 8

/-- Words read as 8-bit rows: row `p` of a column is byte `p % 4` of the word at row `p / 4`. -/
theorem bitcast_byte {R r n : Nat} (x : (⟨2, ![R, n]⟩ : Shape).Idx → BitVec 32)
    (h : (⟨2, ![R, n]⟩ : Shape).Bitcasts 32 ⟨2, ![r, n]⟩ 8) (p : Fin r) (d : Fin n) (a : Fin R) (ha : a.val = p.val / 4) :
    bitcast ⟨2, ![r, n]⟩ 8 x h (ix2 p d) = byte (x (ix2 a d)) (p.val % 4) := by
  apply BitVec.eq_of_getLsbD_eq
  intro q hq
  have hrow : Shape.row (⟨2, ![r, n]⟩ : Shape) (ix2 p d) = p.val := by rfl
  rw [bitcast_getLsbD x h (ix2 p d) q hq (by decide)]
  have e1 : (Shape.row (⟨2, ![r, n]⟩ : Shape) (ix2 p d) * 8 + q) / 32 = a.val := by rw [hrow]; omega
  have e2 : (Shape.row (⟨2, ![r, n]⟩ : Shape) (ix2 p d) * 8 + q) % 32 = 8 * (p.val % 4) + q := by rw [hrow]; omega
  rw [e2]
  unfold byte
  rw [BitVec.getLsbD_extractLsb']
  simp only [hq, decide_true, Bool.true_and]
  congr 2
  funext c
  match c with
  | ⟨0, _⟩ => exact Fin.ext ((h.srcIdx_row _ _ _ ⟨0, Nat.zero_lt_two⟩ rfl).trans e1)
  | ⟨1, _⟩ => exact Fin.ext (h.srcIdx_other _ _ _ ⟨1, Nat.one_lt_two⟩ (by show ¬ 1 + 2 = 2; omega))

/-- Shifting a word right by eight times `i`, keeping the low eight bits and truncating gives its byte `i`, for `i < 4`. -/
theorem shift_byte (w : BitVec 32) (i : Fin 4) :
    BitVec.setWidth 8 (IntOp.andi (IntOp.shrui .vector w (IntOp.muli 8#32 (BitVec.ofNat 32 i.val))) 255#32) = byte w i.val := by
  apply BitVec.eq_of_getLsbD_eq
  intro q hq
  fin_cases i <;> interval_cases q <;>
    simp [IntOp.andi, IntOp.shrui, IntOp.muli, byte, BitVec.getLsbD_setWidth, BitVec.getLsbD_and, BitVec.getLsbD_extractLsb']

end Cert.Codes
-- ==== Proof.ScoresWords.lean ====
/- The words of the scores launch: which block of codes a grid point reads, and the two 4-bit codes of a byte. -/
module

public import proofs.«01_k».proof.Proof.Codes
public import Idealize.ShloMosaic.Lib.StableHlo.Predicate
public import Idealize.ShloMosaic.Lib.WordCmp
public import Idealize.ShloMosaic.PureOps.Ideal

@[expose] public section

noncomputable section

namespace Cert.ScoresWords

open Idealize.ShloMosaic Idealize.ShloMosaic.StableHlo.Predicate

/-- The block of codes that grid point `t` reads for a row of length `w`: its own, or the last one that has live tokens. -/
def blockOf (t : Nat) (w : BitVec 32) : BitVec 32 :=
  Scalar.minsi (BitVec.ofNat 32 t) (Scalar.maxsi (Scalar.subi (Scalar.divsi (Scalar.addi w 4095#32) 4096#32) 1#32) 0#32)

/-- A small number clamped from above by a non-negative word stays as small. -/
theorem clamp_le (t : Nat) (ht : t < 16) (v : BitVec 32) : (IntOp.minsi (BitVec.ofNat 32 t) (IntOp.maxsi v 0#32)).toNat ≤ t := by
  have h0 : (0#32 : BitVec 32).toInt = 0 := by decide
  have ht' : (BitVec.ofNat 32 t).toInt = t := toInt_ofNat_small t (by omega)
  have htn : (BitVec.ofNat 32 t).toNat = t := by rw [BitVec.toNat_ofNat]; omega
  unfold IntOp.minsi
  split
  · omega
  · rename_i h
    simp only [BitVec.slt, decide_eq_true_eq, not_lt] at h
    have hm : 0 ≤ (IntOp.maxsi v 0#32).toInt := by
      unfold IntOp.maxsi
      split
      · rename_i h'
        simp only [BitVec.slt, decide_eq_true_eq] at h'
        omega
      · omega
    rw [BitVec.toInt_eq_toNat_cond] at hm h
    rw [ht'] at h
    split at hm <;> omega

/-- It is one of the sixteen. -/
theorem blockOf_le (t : Nat) (ht : t < 16) (w : BitVec 32) : (blockOf t w).toNat ≤ 15 := by
  unfold blockOf
  generalize Scalar.subi (Scalar.divsi (Scalar.addi w 4095#32) 4096#32) 1#32 = v
  have h : (Scalar.minsi (BitVec.ofNat 32 t) (Scalar.maxsi v 0#32)).toNat ≤ t := clamp_le t ht v
  omega

/-- A positive word divided by 4096. -/
theorem divsi_4096 (u : ArithUnit) (w : BitVec 32) (hw : w.toNat < 2 ^ 31) : (IntOp.divsi u w 4096#32).toNat = w.toNat / 4096 := by
  have hcorner : ¬ IntOp.SDivCorner w 4096#32 := by
    intro hc; rcases hc with hc | ⟨_, hc⟩ <;> exact absurd hc (by decide)
  have hm : w.msb = false := BitVec.msb_eq_false_iff_two_mul_lt.mpr (by omega)
  simp only [IntOp.divsi, if_neg hcorner, BitVec.sdiv_eq, hm, show (4096#32 : BitVec 32).msb = false from by decide, BitVec.udiv_eq,
    BitVec.toNat_udiv, BitVec.toNat_ofNat]

/-- Where the point has live tokens, and the length is not so near the greatest word that rounding it up overflows, it is the
    point's own. -/
theorem blockOf_live (t : Nat) (ht : t < 16) (w : BitVec 32) (hl : (t * 4096 : Int) < w.toInt) (hw : w.toInt ≤ 2147479552) :
    (blockOf t w).toNat = t := by
  have hwn : w.toInt = w.toNat := by
    have := BitVec.toInt_eq_toNat_cond w; split at this <;> omega
  rw [hwn] at hl hw
  have h0 : (0#32 : BitVec 32).toInt = 0 := by decide
  have ht' : (BitVec.ofNat 32 t).toInt = t := toInt_ofNat_small t (by omega)
  have htn : (BitVec.ofNat 32 t).toNat = t := by rw [BitVec.toNat_ofNat]; omega
  have e1 : (Scalar.addi w 4095#32).toNat = w.toNat + 4095 := by
    show (w + 4095#32).toNat = _
    rw [BitVec.toNat_add]; simp only [BitVec.toNat_ofNat]; omega
  have e2 : (Scalar.divsi (Scalar.addi w 4095#32) 4096#32).toNat = (w.toNat + 4095) / 4096 := by
    rw [← e1]; exact divsi_4096 .scalar _ (by omega)
  have e3 : (Scalar.subi (Scalar.divsi (Scalar.addi w 4095#32) 4096#32) 1#32).toNat = (w.toNat + 4095) / 4096 - 1 := by
    show (_ - 1#32 : BitVec 32).toNat = _
    rw [BitVec.toNat_sub, e2]; simp only [BitVec.toNat_ofNat]; omega
  unfold blockOf
  generalize Scalar.subi (Scalar.divsi (Scalar.addi w 4095#32) 4096#32) 1#32 = v at e3
  have e4 : v.toInt = (v.toNat : Int) := toInt_eq_toNat_of_lt (by omega)
  have hmax : (Scalar.maxsi v 0#32) = v := by
    show IntOp.maxsi v 0#32 = v
    unfold IntOp.maxsi
    split
    · rfl
    · rename_i h
      simp only [BitVec.slt, decide_eq_true_eq, h0, e4] at h
      apply BitVec.eq_of_toNat_eq
      simp only [BitVec.toNat_ofNat]
      omega
  rw [hmax]
  show (IntOp.minsi (BitVec.ofNat 32 t) v).toNat = t
  unfold IntOp.minsi
  split
  · exact htn
  · rename_i h
    simp only [BitVec.slt, decide_eq_true_eq, ht', e4] at h
    omega

end Cert.ScoresWords
-- ==== Proof.ScoresTable.lean ====
/- The prefetched lengths name a block of codes inside the array, whatever they are. -/
module

public import proofs.«01_k».proof.Proof.ScoresFrame
public import proofs.«01_k».proof.Proof.ScoresWords

@[expose] public section

set_option maxRecDepth 16384

noncomputable section

namespace Cert.Scores.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ScoresWords

variable {F : FTy → Type} [FloatOps F]

local notation "𝕄" => MT nD τ sig Unit (Elt F) ℕ (UR sig nD τ) ℕ

/-- A block of row 0 of the codes, at a block index within the array. -/
theorem codes_block0 (k : Nat) (hk : k ≤ 15) : ∃ h : (∀ a, ((![(0#32 : BitVec 32).toNat, (0#32 : BitVec 32).toNat, (0#32 : BitVec 32).toNat, k] : Fin 4 → ℕ) a + 1) * S1x10x16x2048.size a ≤ S3x10x16x32768.size a),
    EltTy.bits .i8 = 32 ∨ (Rect.block (s := S3x10x16x32768) S1x10x16x2048.size ![(0#32 : BitVec 32).toNat, (0#32 : BitVec 32).toNat, (0#32 : BitVec 32).toNat, k] h).WholeWords (EltTy.packing .i8) := by
  interval_cases k <;> exact ⟨by decide, .inr (by decide)⟩

/-- A block of row 1 of the codes, at a block index within the array. -/
theorem codes_block1 (k : Nat) (hk : k ≤ 15) : ∃ h : (∀ a, ((![(1#32 : BitVec 32).toNat, (0#32 : BitVec 32).toNat, (0#32 : BitVec 32).toNat, k] : Fin 4 → ℕ) a + 1) * S1x10x16x2048.size a ≤ S3x10x16x32768.size a),
    EltTy.bits .i8 = 32 ∨ (Rect.block (s := S3x10x16x32768) S1x10x16x2048.size ![(1#32 : BitVec 32).toNat, (0#32 : BitVec 32).toNat, (0#32 : BitVec 32).toNat, k] h).WholeWords (EltTy.packing .i8) := by
  interval_cases k <;> exact ⟨by decide, .inr (by decide)⟩

/-- A block of row 2 of the codes, at a block index within the array. -/
theorem codes_block2 (k : Nat) (hk : k ≤ 15) : ∃ h : (∀ a, ((![(2#32 : BitVec 32).toNat, (0#32 : BitVec 32).toNat, (0#32 : BitVec 32).toNat, k] : Fin 4 → ℕ) a + 1) * S1x10x16x2048.size a ≤ S3x10x16x32768.size a),
    EltTy.bits .i8 = 32 ∨ (Rect.block (s := S3x10x16x32768) S1x10x16x2048.size ![(2#32 : BitVec 32).toNat, (0#32 : BitVec 32).toNat, (0#32 : BitVec 32).toNat, k] h).WholeWords (EltTy.packing .i8) := by
  interval_cases k <;> exact ⟨by decide, .inr (by decide)⟩

/-- The side condition of the launch holds of every contents of the lengths. -/
theorem ok_all (pf : pre0.Contents (Elt F)) : ok0 pf :=
  ⟨fun i => codes_block0 _ (blockOf_le (i 0).val (i 0).isLt _), fun i => codes_block1 _ (blockOf_le (i 0).val (i 0).isLt _),
    fun i => codes_block2 _ (blockOf_le (i 0).val (i 0).isLt _)⟩

end Cert.Scores.Gen

end
-- ==== Proof.ScoresIdealPoints.lean ====
/- Which grid points fetch and write back each window's block (program ScoresIdeal). -/
module

public import proofs.«01_k».proof.Proof.Gen.ScoresIdeal
public import Idealize.ShloMosaic.Lib.Pipeline.Kit

@[expose] public section

noncomputable section

namespace Cert.ScoresIdeal.Gen

open Idealize.ShloMosaic Idealize.ShloMosaic.TcCoe
open Idealize.SL Idealize.SL.Sem

variable {F : FTy → Type} [FloatOps F]
/-! ## custom_call 0 -/

/-! A call with PREFETCHED TABLES: its memrefs and body are stated over the pipeline at ANY admissible contents `a`
    of the tables (a certificate instantiates them at the contents it reads off the launch memory). A window whose
    index map reads no table has the same schedule at every `a`: stated over the grid, the window's direction and
    that map alone (Lib/Pipeline/Kit.lean `Window.fetchOf` / `flushOf`), proved from the map and the fact about the
    axes it reads (`hreadsK_W`) or decided, and restated over the pinned window, which unfolds to them. A window whose
    map reads a table gets none here. -/

/-- Window 0 (operand 1 (%0)) is fetched at the first point only, at any contents of the tables (its index map reads none). -/
theorem fetch0_0 (a : (pcfg0 (F := F)).Adm) : ∀ t : Fin (cfg0 a).N, ((cfg0 a).win 0).fetch t = true ↔ t.val % 16 = 0 :=
  (fun t => Pipeline.Window.fetchOf_const cc0_transform_0 (fun _ _ => rfl) (n := 16) (by decide) t : ∀ t : Fin grid0.N, Pipeline.Window.fetchOf grid0 false cc0_transform_0 t = true ↔ t.val % 16 = 0)
/-- Window 1 (operand 2 (%1)) is fetched at the first point only, at any contents of the tables (its index map reads none). -/
theorem fetch0_1 (a : (pcfg0 (F := F)).Adm) : ∀ t : Fin (cfg0 a).N, ((cfg0 a).win 1).fetch t = true ↔ t.val % 16 = 0 :=
  (fun t => Pipeline.Window.fetchOf_const cc0_transform_1 (fun _ _ => rfl) (n := 16) (by decide) t : ∀ t : Fin grid0.N, Pipeline.Window.fetchOf grid0 false cc0_transform_1 t = true ↔ t.val % 16 = 0)
-- window 2: no schedule fact — its index map reads a prefetched table, so where it is fetched or written back depends on the tables' contents
-- window 3: no schedule fact — its index map reads a prefetched table, so where it is fetched or written back depends on the tables' contents
-- window 4: no schedule fact — its index map reads a prefetched table, so where it is fetched or written back depends on the tables' contents
/-- Window 5 (operand 6 (%3)) is fetched at every point, at any contents of the tables (its index map reads none). -/
theorem fetch0_5 (a : (pcfg0 (F := F)).Adm) : ∀ t : Fin (cfg0 a).N, ((cfg0 a).win 5).fetch t = true :=
  (fun t => (Pipeline.Window.fetchOf_reads cc0_transform_5 reads0_5 hreads0_5 0 (by decide) (by decide) (Pipeline.Window.sep_of_coord cc0_transform_5 0 2 (fun _ => rfl) (by decide)) (P := 1) (by decide) t).mpr (Nat.mod_one _) : ∀ t : Fin grid0.N, Pipeline.Window.fetchOf grid0 false cc0_transform_5 t = true)
/-- Window 6 (result 0 (%4)) is written back at every point, at any contents of the tables (its index map reads none). -/
theorem flush0_6 (a : (pcfg0 (F := F)).Adm) : ∀ t : Fin (cfg0 a).N, ((cfg0 a).win 6).flush t = true :=
  (fun t => (Pipeline.Window.flushOf_reads cc0_transform_6 reads0_6 hreads0_6 0 (by decide) (by decide) (Pipeline.Window.sep_of_coord cc0_transform_6 0 2 (fun _ => rfl) (by decide)) (P := 1) (m := 0) (by decide) rfl t).mpr (Nat.mod_one _) : ∀ t : Fin grid0.N, Pipeline.Window.flushOf grid0 true cc0_transform_6 t = true)

/-- The current staging memref of each window at point `t`: which of its buffers it is on. -/
abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)
abbrev st0_4 (a : (pcfg0 (F := F)).Adm) (t : Fin (cfg0 a).N) := ((cfg0 a).win 4).stage ((cfg0 a).slots t 4)
abbrev st0_5 (a : (pcfg0 (F := F)).Adm) (t : Fin (cfg0 a).N) := ((cfg0 a).win 5).stage ((cfg0 a).slots t 5)
abbrev st0_6 (a : (pcfg0 (F := F)).Adm) (t : Fin (cfg0 a).N) := ((cfg0 a).win 6).stage ((cfg0 a).slots t 6)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_label_scores (grid0.coords t) (Memref.whole main_arg0) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (Memref.whole cc0_scratch0) (Memref.isWhole_whole _)

end Cert.ScoresIdeal.Gen

end
-- ==== Proof.ScoresIdealKit.lean ====
/- The region's entry state, its windows' blocks and the shape of its invariant (program ScoresIdeal). -/
module

public import proofs.«01_k».proof.Proof.Gen.ScoresIdeal.Launch
public import proofs.«01_k».proof.Proof.Gen.ScoresIdeal.Skeleton
public import proofs.«01_k».proof.Proof.ScoresIdealPoints
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.ScoresIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

/-- No host operation before the region takes a fresh buffer. -/
theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 1) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; it holds for all lengths (`ScoresTable.lean`). -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S3 .i32 := Memref.whole main_arg0
abbrev htbM0_0 : tbM0_0.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0)) := by
  unfold Pipeline.ΦT Pipeline.prefHeld
  rw [show (Finset.univ : Finset (Fin 1)) = {(0 : Fin 1)} from by decide, bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of (hO : Ok m) {c : Dev nD} (dat : Dat τ (Elt F) Unit ℕ (UR sig nD τ) ℕ (cfgM m hO) c) (hA : dat.A 5 = V m c (Pipeline.arrRef spec0 5))
    (hafter : ∀ t, dat.after 5 t = iblk m hO c 5 t) (t : Fin (cfgM m hO).N) (d) : dat.before 5 t d = iblk m hO c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_ScoresIdeal`, Defs.lean, at any `F`). -/
theorem frame_of (hO : Ok m) (dats : (p : Fin 1) → (c : Dev nD) → Dat τ (Elt F) Unit ℕ (UR sig nD τ) ℕ ((Pipeline.pin pcfgs fun _ => adm m hO) p) c)
    (hA : ∀ c w, (dats 0 c).A w = V m c (Pipeline.arrRef spec0 w))
    (h : θ_run defs (onTc (τ := τ) (main (F := F))) (s₀ m ρ) (Pipeline.FramePost (Pipeline.pin pcfgs fun _ => adm m hO) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).2 main_arg0 (by decide : main_arg0 ∈ Pipeline.restRefs sig spec0)).trans (V_main_arg0 m c),
      ((h c).2 main_arg1 (by decide : main_arg1 ∈ Pipeline.restRefs sig spec0)).trans (V_main_arg1 m c),
      ((h c).2 main_arg2 (by decide : main_arg2 ∈ Pipeline.restRefs sig spec0)).trans (V_main_arg2 m c),
      ((h c).2 main_arg3 (by decide : main_arg3 ∈ Pipeline.restRefs sig spec0)).trans (V_main_arg3 m c),
      ((h c).2 main_arg4 (by decide : main_arg4 ∈ Pipeline.restRefs sig spec0)).trans (V_main_arg4 m c)⟩) h

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin grid0.N, cond0_0 (grid0.coords t) ↔ t.val % 16 = 0 :=
  (fun t => by
    have ht : t.val < 16 := Nat.lt_of_lt_of_eq t.isLt N_0
    have e0 : (grid0.coords t 0).val = t.val / 1 % 16 := Pipeline.Grid.coords_val t 0 (by decide) rfl
    simp only [cond0_0, e0]
    word_cmp
   : ∀ t : Fin grid0.N, cond0_0 (grid0.coords t) ↔ t.val % 16 = 0)

/-! ## The kernel body on any staging memrefs: a subtype the run finds -/

/-- One staging buffer of output window 6, through which its contents are stated (`View.read_writes_of_cover`: the
    choice does not matter). -/
abbrev VO0_6 : View sig .tc .vmem S3x40x4096 .f32 := (Memref.whole cc0_stg6_0 : Memref sig .tc .vmem S3x40x4096 .f32).view
/-- Each window's current staging memref at point `t`, spelled as the pipeline passes it (`bodyAt0`), and its wholeness. -/
abbrev ms0_0 (hO : Ok m) (t : Fin (cfgM m hO).N) : Memref sig .tc .vmem S3x40x128 .bf16 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x160 .i32 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x10x16x2048 .i8 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1x10x16x2048 .i8 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S1x10x16x2048 .i8 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S10x3x4096 .f32 := spec0_5.stage ((cfgM m hO).slots t 5)
abbrev hs0_5 (hO : Ok m) (t : Fin (cfgM m hO).N) : (ms0_5 m hO t).IsWhole := hstage0_5 (((cfgM m hO).slots t 5).cast nbuf0_5)
abbrev ms0_6 (hO : Ok m) (t : Fin (cfgM m hO).N) : Memref sig .tc .vmem S3x40x4096 .f32 := spec0_6.stage ((cfgM m hO).slots t 6)
abbrev hs0_6 (hO : Ok m) (t : Fin (cfgM m hO).N) : (ms0_6 m hO t).IsWhole := hstage0_6 (((cfgM m hO).slots t 6).cast nbuf0_6)
/-- The scratch operands: whole scoped buffers of the kernel's own, passed beside the windows. -/
abbrev scM0_0 : Memref sig .tc .vmem S3x40x160 .bf16 := Memref.whole cc0_scratch0
/-- The scratch `arg9` the kernel carries between points, as a view: what it holds is stated through it. -/
abbrev VS0_0 : View sig .tc .vmem S3x40x160 .bf16 := scM0_0.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.ScoresIdeal.Gen

end
-- ==== Proof.ScoresIdealTile.lean ====
/- One grid point of the scores: its tiles, its output block and its scratch, as functions of what it reads. -/
module

public import proofs.«01_k».proof.Proof.ScoresIdealKit
public import Idealize.ShloMosaic.Lib.Writes
public import Idealize.ShloMosaic.Lib.Pipeline.ValueKit
public import Idealize.ShloMosaic.Lib.WordCmp
public import Idealize.ShloMosaic.Lib.Pipeline.FrameBody

@[expose] public section

set_option maxRecDepth 16384

noncomputable section

namespace Cert.ScoresIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The queries of one row, spread over the label channels: the one-hot product with the channels, kept where the lane's
    key head is the query head's own. -/
def qRow (x1 : Vec F S1x160 .i32) (x : Vec F S1x40x128 .bf16) : FVec F S1x40x160 .bf16 :=
  k0_pay1 (k0_pay16 (k0_pay5 x1) x) k0_pay17 k0_pay18 k0_pay19 k0_pay20 0#32

/-- The rectangle of row `b` of the query block, in bounds. -/
theorem inbX (b : Fin 3) : ∀ a, (![b.val, 0, 0] : Fin 3 → ℕ) a + S1x40x128.size a ≤ S3x40x128.size a := by
  intro a; fin_cases b <;> fin_cases a <;> decide

/-- The rectangle of row `b` of the scratch, in bounds. -/
theorem inbQ (b : Fin 3) : ∀ a, (![b.val, 0, 0] : Fin 3 → ℕ) a + S1x40x160.size a ≤ S3x40x160.size a := by
  intro a; fin_cases b <;> fin_cases a <;> decide

/-- The rectangle of tile `n` of row `b` of the scale block, in bounds. -/
theorem inbS (b : Fin 3) (n : Fin 32) : ∀ a, (![0, b.val, 128 * n.val] : Fin 3 → ℕ) a + S10x1x128.size a ≤ S10x3x4096.size a := by
  intro a; have := n.isLt; have := b.isLt; fin_cases a <;> simp [S10x1x128, S10x3x4096] <;> omega

/-- The rectangle of tile `n` of row `b` of the output block, in bounds. -/
theorem inbO (b : Fin 3) (n : Fin 32) : ∀ a, (![b.val, 0, 128 * n.val] : Fin 3 → ℕ) a + S1x40x128.size a ≤ S3x40x4096.size a := by
  intro a; have := n.isLt; have := b.isLt; fin_cases a <;> simp [S1x40x128, S3x40x4096] <;> omega

/-- The slice of the packed words of tile `n`, in bounds. -/
theorem slW (n : Fin 32) : S40x2048.Slices ![0, 128 * (n.val / 2)] S40x128 := by
  revert n; decide

/-- The lanes a tile's tokens are taken from: half of the 128 lanes of its words, each twice. -/
def laneIx (n : Fin 32) : IVec S40x128 32 := if n.val % 2 = 0 then k0_pay22 else k0_pay23

/-- One tile of scores: 128 tokens of one row. -/
def tile (arg0 v3 : BitVec 32) (w : IVec S40x2048 32) (n : Fin 32) (q : Vec F S1x40x160 .bf16) (s : Vec F S10x1x128 .f32) :
    FVec F S1x40x128 .f32 :=
  have v40 := laneIx n
  have v120 : IVec S40x128 32 := extractStridedSlice S40x128 ![0, 128 * (n.val / 2)] w (slW n)
  have v158 : IVec S40x128 32 := broadcast S40x128 0#32
  have v159 : IVec S40x128 1 := cmpi .slt v40 v158
  have v160 : IVec S40x128 32 := broadcast S40x128 128#32
  have v161 : IVec S40x128 32 := addi v40 v160
  have v162 : IVec S40x128 32 := select v159 v161 v40
  have v163 : IVec S40x128x1 32 := shapeCast S40x128x1 v162 shapeCasts_S40x128_S40x128x1
  have v164 : IVec S40x128 32 := shapeCast S40x128 v163 shapeCasts_S40x128x1_S40x128
  have v165 : IVec S40x128 32 := dynamicGather 1 v120 v164
  have v166 : IVec S40x128 32 := shli v165 k0_pay21
  have v167 : IVec S40x128 32 := broadcast S40x128 4042322160#32
  have v168 : IVec S40x128 32 := andi v166 v167
  have v169 : IVec S160x128 8 := bitcast S160x128 8 v168 bitcasts_S40x128_w32_S160x128_w8
  have v170 : FVec F S160x128 .bf16 := sitofp .bf16 v169
  have v172 : FVec F S40x160 .bf16 := shapeCast S40x160 q shapeCasts_S1x40x160_S40x160
  have cst_69 : FVec F S40x128 .f32 := constant S40x128 .f32 0x00000000#32
  have v173 : FVec F S40x128 .f32 := matmul dot_S40x160_S160x128_S40x128_1_0_0_1_n_n none v172 v170 cst_69
  let v174 : BitVec 32 := Scalar.muli arg0 4096#32
  let v175 : BitVec 32 := Scalar.addi v174 (BitVec.ofNat 32 (128 * n.val))
  have v176 : IVec S40x128 32 := iota .tc S40x128 32 [1] iota_S40x128_d1_w32
  have v177 : IVec S40x128 32 := broadcast S40x128 v175
  have v178 : IVec S40x128 32 := addi v177 v176
  have v180 : FVec F S10x128 .f32 := shapeCast S10x128 s shapeCasts_S10x1x128_S10x128
  have cst_73 : F .f32 := Scalar.ofBits .f32 0x3BB504F3#32
  have v181 : FVec F S10x128 .f32 := broadcast S10x128 cst_73
  have v182 : FVec F S10x128 .f32 := mulf v180 v181
  have v183 : FVec F S10x1x128 .f32 := shapeCast S10x1x128 v182 shapeCasts_S10x128_S10x1x128
  have v184 : FVec F S10x1x128 .f32 := shapeCast S10x1x128 v183 shapeCasts_S10x1x128_S10x1x128
  have v185 : FVec F S10x4x128 .f32 := broadcastTo S10x4x128 v184 broadcasts_S10x1x128_S10x4x128
  have v186 : FVec F S40x128 .f32 := shapeCast S40x128 v185 shapeCasts_S10x4x128_S40x128
  have v187 : IVec S40x128 32 := broadcast S40x128 v3
  have v188 : IVec S40x128 1 := cmpi .slt v178 v187
  have v189 : FVec F S40x128 .f32 := mulf v186 v173
  have cst_74 : F .f32 := Scalar.ofBits .f32 0x00000000#32
  have v190 : FVec F S40x128 .f32 := broadcast S40x128 cst_74
  have v191 : FVec F S40x128 .f32 := select v188 v189 v190
  have v194 : FVec F S1x40x128 .f32 := shapeCast S1x40x128 v191 shapeCasts_S40x128_S1x40x128
  v194

/-- Two of the kernel's own spellings of a tile are this one: an even tile, cut early, -/
theorem tile_even (arg0 v3 : BitVec 32) (v41 : Vec F S1x10x16x2048 .i8) (q : Vec F S1x40x160 .bf16) (s : Vec F S10x1x128 .f32) :
    k0_pay29 v3 (k0_pay26 v41 q) (k0_pay27 arg0) (k0_pay28 s) = tile arg0 v3 (k0_pay24 v41) 0 q s := rfl

/-- and an odd tile, cut late. -/
theorem tile_odd (arg0 v3 : BitVec 32) (v41 : Vec F S1x10x16x2048 .i8) (q : Vec F S1x40x160 .bf16) (s : Vec F S10x1x128 .f32) :
    k0_pay40 (k0_pay39 arg0 v3 k0_pay21 k0_pay23 (extractStridedSlice S40x128 ![0, 128] (k0_pay24 v41) slices_S40x2048_o0_128_S40x128) q s)
      = tile arg0 v3 (k0_pay24 v41) 3 q s := rfl

/-- The whole rectangle of a block of codes. -/
abbrev rectC : Rect S1x10x16x2048 :=
  Rect.unit (s := S1x10x16x2048) ![0, 0, 0, 0] S1x10x16x2048.size inb_S1x10x16x2048_S1x10x16x2048_0_0_0_0

/-- Row `b` of the output block: at token lane `y 2` the entry of its tile. -/
def rowVal (arg0 v3 : BitVec 32) (b : Fin 3) (q : Vec F S3x40x160 .bf16) (x : Vec F S1x10x16x2048 .i8) (s : Vec F S10x3x4096 .f32) :
    Vec F S3x40x4096 .f32 := fun y =>
  have hn : (y 2).val / 128 < 32 := by have : (y 2).val < 4096 := (y 2).isLt; omega
  tile arg0 v3 (k0_pay24 (View.ld x rectC)) ⟨(y 2).val / 128, hn⟩
    (View.ld q (Rect.unit (s := S3x40x160) ![b.val, 0, 0] S1x40x160.size (inbQ b)))
    (View.ld s (Rect.unit (s := S10x3x4096) ![0, b.val, 128 * ((y 2).val / 128)] S10x1x128.size (inbS b ⟨(y 2).val / 128, hn⟩)))
    (ix3 (0 : Fin 1) (y 1 : Fin 40) (⟨(y 2).val % 128, Nat.mod_lt _ (by decide)⟩ : Fin 128))

/-- The piece tile `n` of row `b` writes. -/
abbrev piece (arg0 v3 : BitVec 32) (b : Fin 3) (q : Vec F S3x40x160 .bf16) (x : Vec F S1x10x16x2048 .i8) (s : Vec F S10x3x4096 .f32)
    (n : Fin 32) : View.Piece (Elt F) S3x40x4096 .f32 :=
  ⟨Rect.unit (s := S3x40x4096) ![b.val, 0, 128 * n.val] S1x40x128.size (inbO b n),
    tile arg0 v3 (k0_pay24 (View.ld x rectC)) n
      (View.ld q (Rect.unit (s := S3x40x160) ![b.val, 0, 0] S1x40x160.size (inbQ b)))
      (View.ld s (Rect.unit (s := S10x3x4096) ![0, b.val, 128 * n.val] S10x1x128.size (inbS b n)))⟩

/-- The pieces of the first `k` tiles of row `b`, the newest first. -/
def pieces (arg0 v3 : BitVec 32) (b : Fin 3) (q : Vec F S3x40x160 .bf16) (x : Vec F S1x10x16x2048 .i8) (s : Vec F S10x3x4096 .f32) :
    (k : ℕ) → k ≤ 32 → List (View.Piece (Elt F) S3x40x4096 .f32)
  | 0, _ => []
  | k + 1, h => piece arg0 v3 b q x s ⟨k, h⟩ :: pieces arg0 v3 b q x s k (Nat.le_of_succ_le h)

/-- Every one of the first `k` pieces is some tile's. -/
theorem mem_pieces (arg0 v3 : BitVec 32) (b : Fin 3) (q : Vec F S3x40x160 .bf16) (x : Vec F S1x10x16x2048 .i8) (s : Vec F S10x3x4096 .f32) :
    ∀ (k : ℕ) (h : k ≤ 32) (p), p ∈ pieces arg0 v3 b q x s k h ↔ ∃ n : Fin 32, n.val < k ∧ p = piece arg0 v3 b q x s n := by
  intro k
  induction k with
  | zero => intro h p; simp [pieces]
  | succ k ih =>
    intro h p
    rw [pieces, List.mem_cons, ih]
    constructor
    · rintro (rfl | ⟨n, hn, rfl⟩)
      · exact ⟨_, Nat.lt_succ_self k, rfl⟩
      · exact ⟨n, by omega, rfl⟩
    · rintro ⟨n, hn, rfl⟩
      rcases Nat.lt_succ_iff_lt_or_eq.mp hn with hn | hn
      · exact Or.inr ⟨n, hn, rfl⟩
      · left; have : n = ⟨k, h⟩ := Fin.ext hn
        rw [this]

/-- A tile's piece agrees with the row. -/
theorem piece_eq (arg0 v3 : BitVec 32) (b : Fin 3) (q : Vec F S3x40x160 .bf16) (x : Vec F S1x10x16x2048 .i8) (s : Vec F S10x3x4096 .f32)
    (n : Fin 32) (z : S1x40x128.Idx) :
    tile arg0 v3 (k0_pay24 (View.ld x rectC)) n
      (View.ld q (Rect.unit (s := S3x40x160) ![b.val, 0, 0] S1x40x160.size (inbQ b)))
      (View.ld s (Rect.unit (s := S10x3x4096) ![0, b.val, 128 * n.val] S10x1x128.size (inbS b n))) z
    = rowVal arg0 v3 b q x s ((Rect.unit (s := S3x40x4096) ![b.val, 0, 128 * n.val] S1x40x128.size (inbO b n)).emb z) := by
  have h1 : (((Rect.unit (s := S3x40x4096) ![b.val, 0, 128 * n.val] S1x40x128.size (inbO b n)).emb z) 1).val = (z 1).val := by
    show 0 + 1 * (z 1).val = _; omega
  have h2 : (((Rect.unit (s := S3x40x4096) ![b.val, 0, 128 * n.val] S1x40x128.size (inbO b n)).emb z) 2).val = 128 * n.val + (z 2).val := by
    show 128 * n.val + 1 * (z 2).val = _; omega
  have hz2 : (z 2).val < 128 := (z 2).isLt
  have hz0 : (z 0).val < 1 := (z 0).isLt
  generalize (Rect.unit (s := S3x40x4096) ![b.val, 0, 128 * n.val] S1x40x128.size (inbO b n)).emb z = y at h1 h2
  unfold rowVal
  have hn : n = ⟨(y 2).val / 128, by have : (y 2).val < 4096 := (y 2).isLt; omega⟩ := Fin.ext (by show n.val = (y 2).val / 128; omega)
  have hzz : z = ix3 (0 : Fin 1) (y 1 : Fin 40) (⟨(y 2).val % 128, Nat.mod_lt _ (by decide)⟩ : Fin 128) := by
    funext a
    match a with
    | ⟨0, _⟩ => exact Fin.ext (by show (z 0).val = 0; omega)
    | ⟨1, _⟩ => exact Fin.ext h1.symm
    | ⟨2, _⟩ => exact Fin.ext (by show (z 2).val = (y 2).val % 128; omega)
  conv_lhs => rw [hzz]
  rw [hn]
  rfl

/-- Is a row's block of tokens within its length? -/
abbrev live (i : grid0.Coords) (v3 : BitVec 32) : Prop := k0_cond2 i v3 = 1#1

/-- The other branch's condition is the negation. -/
theorem dead_iff (i : grid0.Coords) (v3 : BitVec 32) : k0_cond3 i v3 = 1#1 ↔ ¬ live i v3 := by
  unfold live k0_cond3 k0_cond2
  simp only [Scalar.cmpi, Scalar.extui, WordCmp.cmpi_slt_eq, WordCmp.cmpi_sge_eq]
  generalize (Scalar.muli (BitVec.ofNat 32 (i 0).val) 4096#32).toInt = a
  generalize v3.toInt = b
  by_cases h : a < b
  · rw [decide_eq_true h, decide_eq_false (not_le.mpr h)]; decide
  · rw [decide_eq_false h, decide_eq_true (not_lt.mp h)]; decide

/-- The output block of one grid point. -/
def outVec (i : grid0.Coords) (wd : Fin 3 → BitVec 32) (q : Vec F S3x40x160 .bf16) (x : Fin 3 → Vec F S1x10x16x2048 .i8)
    (s : Vec F S10x3x4096 .f32) : Vec F S3x40x4096 .f32 := fun y =>
  if live i (wd (y 0)) then rowVal (BitVec.ofNat 32 (i 0).val) (wd (y 0)) (y 0) q (x (y 0)) s y else Scalar.ofBits .f32 0#32

/-- Row `b` of the scratch the first grid point fills. -/
def rowInit (x0 : Vec F S3x40x128 .bf16) (x1 : Vec F S1x160 .i32) (b : Fin 3) : FVec F S1x40x160 .bf16 :=
  qRow (View.ld x1 (Rect.unit (s := S1x160) ![0, 0] S1x160.size inb_S1x160_S1x160_0_0))
    (View.ld x0 (Rect.unit (s := S3x40x128) ![b.val, 0, 0] S1x40x128.size (inbX b)))

/-- The scratch the first grid point fills. -/
def qInit (x0 : Vec F S3x40x128 .bf16) (x1 : Vec F S1x160 .i32) : Vec F S3x40x160 .bf16 := fun y =>
  rowInit x0 x1 (y 0) (ix3 (0 : Fin 1) (y 1 : Fin 40) (y 2 : Fin 160))

/-- Reading through one guarded list of a row's tiles. -/
theorem read_live {sig' : RefSig} {κ : Kind} {sp : Space} (v : View sig' κ sp S3x40x4096 .f32) (C : Prop) [Decidable C] (X : v.ty.Contents (Elt F))
    (arg0 v3 : BitVec 32) (b : Fin 3) (q : Vec F S3x40x160 .bf16) (x : Vec F S1x10x16x2048 .i8) (s : Vec F S10x3x4096 .f32)
    (L : List (View.Piece (Elt F) S3x40x4096 .f32)) (hL : L = pieces arg0 v3 b q x s 32 le_rfl) (y : S3x40x4096.Idx) :
    v.read (Elt F) (if h : C then v.writes (Elt F) X L else X) y
      = if C ∧ (y 0).val = b.val then rowVal arg0 v3 b q x s y else v.read (Elt F) X y := by
  subst hL
  by_cases h : C
  · rw [dif_pos h]
    by_cases hb : (y 0).val = b.val
    · rw [if_pos ⟨h, hb⟩]
      refine View.read_writes_apply_of_pieces v X _ _ (fun p hp z => ?_) y ?_
      · obtain ⟨n, -, rfl⟩ := (mem_pieces ..).mp hp
        exact piece_eq arg0 v3 b q x s n z
      · have h2 : (y 2).val < 4096 := (y 2).isLt
        have h1 : (y 1).val < 40 := (y 1).isLt
        refine ⟨_, (mem_pieces ..).mpr ⟨⟨(y 2).val / 128, by omega⟩, by show (y 2).val / 128 < 32; omega, rfl⟩, ?_⟩
        refine (LoadRect.mem_set _).mpr fun a => ?_
        match a with
        | ⟨0, _⟩ => exact ⟨0, Nat.zero_lt_one, by show (y 0).val = b.val + 1 * 0; rw [hb]; omega⟩
        | ⟨1, _⟩ => exact ⟨(y 1).val, h1, by show (y 1).val = 0 + 1 * (y 1).val; omega⟩
        | ⟨2, _⟩ => exact ⟨(y 2).val % 128, Nat.mod_lt _ (by decide), by
            show (y 2).val = 128 * ((y 2).val / 128) + 1 * ((y 2).val % 128); omega⟩
    · rw [if_neg (fun hh => hb hh.2)]
      refine View.read_writes_apply_of_forall_not_mem v X y _ fun p hp => ?_
      obtain ⟨n, -, rfl⟩ := (mem_pieces ..).mp hp
      refine Rect.not_mem_set_of_axis _ y 0 b.val 1 rfl rfl rfl ?_
      omega
  · rw [dif_neg h, if_neg (fun hh => h hh.1)]

/-- The rectangle of row `b` of the output block, in bounds. -/
theorem inbB (b : Fin 3) : ∀ a, (![b.val, 0, 0] : Fin 3 → ℕ) a + S1x40x4096.size a ≤ S3x40x4096.size a := by
  intro a; fin_cases b <;> fin_cases a <;> decide

/-- Reading through one guarded store of a row of zeros. -/
theorem read_dead {sig' : RefSig} {κ : Kind} {sp : Space} (v : View sig' κ sp S3x40x4096 .f32) (C : Prop) [Decidable C] (X : v.ty.Contents (Elt F))
    (b : Fin 3) (L : List (View.Piece (Elt F) S3x40x4096 .f32))
    (hL : L = [⟨Rect.unit (s := S3x40x4096) ![b.val, 0, 0] S1x40x4096.size (inbB b), k0_pay2⟩]) (y : S3x40x4096.Idx) :
    v.read (Elt F) (if h : C then v.writes (Elt F) X L else X) y
      = if C ∧ (y 0).val = b.val then Scalar.ofBits .f32 0#32 else v.read (Elt F) X y := by
  subst hL
  by_cases h : C
  · rw [dif_pos h]
    by_cases hb : (y 0).val = b.val
    · rw [if_pos ⟨h, hb⟩]
      refine (View.read_writes_cons_hit_of_coords v X _ _ _ (ix3 (0 : Fin 1) (y 1 : Fin 40) (y 2 : Fin 4096)) y fun a => ?_).trans rfl
      match a with
      | ⟨0, _⟩ => show (y 0).val = b.val + 1 * 0; rw [hb]; omega
      | ⟨1, _⟩ => show (y 1).val = 0 + 1 * (y 1).val; omega
      | ⟨2, _⟩ => show (y 2).val = 0 + 1 * (y 2).val; omega
    · rw [if_neg (fun hh => hb hh.2)]
      refine (View.read_writes_cons_miss_of_axis v X _ _ y 0 b.val 1 rfl rfl rfl ?_).trans rfl
      omega
  · rw [dif_neg h, if_neg (fun hh => h hh.1)]

/-- The piece that fills row `b` of the scratch. -/
abbrev rowPiece (x0 : Vec F S3x40x128 .bf16) (x1 : Vec F S1x160 .i32) (b : Fin 3) : View.Piece (Elt F) S3x40x160 .bf16 :=
  ⟨Rect.unit (s := S3x40x160) ![b.val, 0, 0] S1x40x160.size (inbQ b), rowInit x0 x1 b⟩

/-- A row's piece, read where it lies, -/
theorem read_rowPiece {sig' : RefSig} {κ : Kind} {sp : Space} (v : View sig' κ sp S3x40x160 .bf16) (X : v.ty.Contents (Elt F))
    (x0 : Vec F S3x40x128 .bf16) (x1 : Vec F S1x160 .i32) (b : Fin 3) (L : List (View.Piece (Elt F) S3x40x160 .bf16)) (y : S3x40x160.Idx)
    (hb : (y 0).val = b.val) : v.read (Elt F) (v.writes (Elt F) X (rowPiece x0 x1 b :: L)) y = qInit x0 x1 y := by
  refine (View.read_writes_cons_hit_of_coords v X _ _ _ (ix3 (0 : Fin 1) (y 1 : Fin 40) (y 2 : Fin 160)) y fun a => ?_).trans ?_
  · match a with
    | ⟨0, _⟩ => show (y 0).val = b.val + 1 * 0; omega
    | ⟨1, _⟩ => show (y 1).val = 0 + 1 * (y 1).val; omega
    | ⟨2, _⟩ => show (y 2).val = 0 + 1 * (y 2).val; omega
  · have e : b = y 0 := Fin.ext hb.symm
    subst e
    rfl

/-- and where it does not lie. -/
theorem read_rowPiece_miss {sig' : RefSig} {κ : Kind} {sp : Space} (v : View sig' κ sp S3x40x160 .bf16) (X : v.ty.Contents (Elt F))
    (x0 : Vec F S3x40x128 .bf16) (x1 : Vec F S1x160 .i32) (b : Fin 3) (L : List (View.Piece (Elt F) S3x40x160 .bf16)) (y : S3x40x160.Idx)
    (hb : (y 0).val ≠ b.val) : v.read (Elt F) (v.writes (Elt F) X (rowPiece x0 x1 b :: L)) y = v.read (Elt F) (v.writes (Elt F) X L) y :=
  View.read_writes_cons_miss_of_axis v X _ _ y 0 b.val 1 rfl rfl rfl (by omega)

/-- Reading the scratch through the guarded stores of its three rows. -/
theorem read_init {sig' : RefSig} {κ : Kind} {sp : Space} (v : View sig' κ sp S3x40x160 .bf16) (C : Prop) [Decidable C] (X : v.ty.Contents (Elt F))
    (x0 : Vec F S3x40x128 .bf16) (x1 : Vec F S1x160 .i32) (L : List (View.Piece (Elt F) S3x40x160 .bf16))
    (hL : L = [rowPiece x0 x1 2, rowPiece x0 x1 1, rowPiece x0 x1 0]) :
    v.read (Elt F) (if h : C then v.writes (Elt F) X L else X) = if C then qInit x0 x1 else v.read (Elt F) X := by
  subst hL
  by_cases h : C
  · rw [dif_pos h, if_pos h]
    funext y
    have h0 : (y 0).val < 3 := (y 0).isLt
    by_cases h2 : (y 0).val = 2
    · exact read_rowPiece v X x0 x1 2 _ y h2
    · refine (read_rowPiece_miss v X x0 x1 2 _ y h2).trans ?_
      by_cases h1 : (y 0).val = 1
      · exact read_rowPiece v X x0 x1 1 _ y h1
      · refine (read_rowPiece_miss v X x0 x1 1 _ y h1).trans ?_
        exact read_rowPiece v X x0 x1 0 _ y (by show (y 0).val = 0; omega)
  · rw [dif_neg h, if_neg h]

end Cert.ScoresIdeal.Gen
end
-- ==== Proof.ScoresIdealBody.lean ====
/- One run of the scores body. -/
module

public import proofs.«01_k».proof.Proof.ScoresIdealTile

@[expose] public section

set_option maxRecDepth 16384

noncomputable section

namespace Cert.ScoresIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The three lengths, as the body reads them from the table. -/
def wd (c : Dev nD) (xt0 : TbBuf0 (F := F) c tbM0_0) : Fin 3 → BitVec 32 :=
  ![(tbM0_0.view.readAt (Elt F) (Rect.unit (s := S3) ![0] S1.size inb_S3_S1_0).toLoadRect xt0 (Shape.Idx.first (numel1_S1.symm ▸ Nat.one_pos))),
    (tbM0_0.view.readAt (Elt F) (Rect.unit (s := S3) ![1] S1.size inb_S3_S1_1).toLoadRect xt0 (Shape.Idx.first (numel1_S1.symm ▸ Nat.one_pos))),
    (tbM0_0.view.readAt (Elt F) (Rect.unit (s := S3) ![2] S1.size inb_S3_S1_2).toLoadRect xt0 (Shape.Idx.first (numel1_S1.symm ▸ Nat.one_pos)))]

/-- What a grid point leaves in the scratch: the spread queries at the first, what was there at the others. -/
def qAfter (i : grid0.Coords) (x0 : Vec F S3x40x128 .bf16) (x1 : Vec F S1x160 .i32) (ds : Vec F S3x40x160 .bf16) : Vec F S3x40x160 .bf16 :=
  if cond0_0 i then qInit x0 x1 else ds

/-- The scratch buffer after the guarded stores that fill it. -/
def scrAfter (i : grid0.Coords) (arg9 : Memref sig .tc .vmem S3x40x160 .bf16) (harg9 : arg9.IsWhole) (x0 : Vec F S3x40x128 .bf16)
    (x1 : Vec F S1x160 .i32) (ds : Vec F S3x40x160 .bf16) : arg9.view.ty.Contents (Elt F) :=
  if h : cond0_0 i then arg9.view.writes (Elt F) (harg9.unread ds) [rowPiece x0 x1 2, rowPiece x0 x1 1, rowPiece x0 x1 0] else harg9.unread ds

/-- Read back, it is that. -/
theorem read_scrAfter (i : grid0.Coords) (arg9 : Memref sig .tc .vmem S3x40x160 .bf16) (harg9 : arg9.IsWhole) (x0 : Vec F S3x40x128 .bf16)
    (x1 : Vec F S1x160 .i32) (ds : Vec F S3x40x160 .bf16) : arg9.view.read (Elt F) (scrAfter i arg9 harg9 x0 x1 ds) = qAfter i x0 x1 ds := by
  unfold scrAfter qAfter
  refine (read_init arg9.view (cond0_0 i) (harg9.unread ds) x0 x1 _ rfl).trans ?_
  rw [harg9.read_unread]

/-- A dead row's entries. -/
theorem outVec_dead (i : grid0.Coords) (wd : Fin 3 → BitVec 32) (q : Vec F S3x40x160 .bf16) (x : Fin 3 → Vec F S1x10x16x2048 .i8)
    (s : Vec F S10x3x4096 .f32) (y : S3x40x4096.Idx) (b : Fin 3) (hy : (y 0).val = b.val) (h : ¬ live i (wd b)) :
    outVec i wd q x s y = Scalar.ofBits .f32 0#32 := by
  have e : b = y 0 := Fin.ext hy.symm
  subst e
  exact if_neg h

/-- A live row's entries. -/
theorem outVec_live (i : grid0.Coords) (wd : Fin 3 → BitVec 32) (q : Vec F S3x40x160 .bf16) (x : Fin 3 → Vec F S1x10x16x2048 .i8)
    (s : Vec F S10x3x4096 .f32) (y : S3x40x4096.Idx) (b : Fin 3) (hy : (y 0).val = b.val) (h : live i (wd b)) :
    outVec i wd q x s y = rowVal (BitVec.ofNat 32 (i 0).val) (wd b) b q (x b) s y := by
  have e : b = y 0 := Fin.ext hy.symm
  subst e
  exact if_pos h

/-- The words the later rows test are the first row's at their lengths. -/
theorem cond_eq (i : grid0.Coords) (v : BitVec 32) : k0_cond4 i v = k0_cond2 i v ∧ k0_cond6 i v = k0_cond2 i v ∧ k0_cond5 i v = k0_cond3 i v ∧ k0_cond7 i v = k0_cond3 i v :=
  ⟨rfl, rfl, rfl, rfl⟩

/-- The output buffer after the six guarded regions reads as the output block. -/
theorem read_fold {sig' : RefSig} {κ : Kind} {sp : Space} (v : View sig' κ sp S3x40x4096 .f32) (f : v.ty.Contents (Elt F))
    (i : grid0.Coords) (w0 w1 w2 : BitVec 32) (q : Vec F S3x40x160 .bf16) (x2 x3 x4 : Vec F S1x10x16x2048 .i8) (s : Vec F S10x3x4096 .f32)
    (L2 L3 L4 L5 L6 L7 : List (View.Piece (Elt F) S3x40x4096 .f32))
    (h2 : L2 = pieces (BitVec.ofNat 32 (i 0).val) w0 0 q x2 s 32 le_rfl)
    (h3 : L3 = [⟨Rect.unit (s := S3x40x4096) ![(0 : Fin 3).val, 0, 0] S1x40x4096.size (inbB 0), k0_pay2⟩])
    (h4 : L4 = pieces (BitVec.ofNat 32 (i 0).val) w1 1 q x3 s 32 le_rfl)
    (h5 : L5 = [⟨Rect.unit (s := S3x40x4096) ![(1 : Fin 3).val, 0, 0] S1x40x4096.size (inbB 1), k0_pay2⟩])
    (h6 : L6 = pieces (BitVec.ofNat 32 (i 0).val) w2 2 q x4 s 32 le_rfl)
    (h7 : L7 = [⟨Rect.unit (s := S3x40x4096) ![(2 : Fin 3).val, 0, 0] S1x40x4096.size (inbB 2), k0_pay2⟩])
    (X2 X3 X4 X5 X6 X7 : v.ty.Contents (Elt F))
    (e2 : X2 = if h : k0_cond2 i w0 = 1#1 then v.writes (Elt F) f L2 else f)
    (e3 : X3 = if h : k0_cond3 i w0 = 1#1 then v.writes (Elt F) X2 L3 else X2)
    (e4 : X4 = if h : k0_cond4 i w1 = 1#1 then v.writes (Elt F) X3 L4 else X3)
    (e5 : X5 = if h : k0_cond5 i w1 = 1#1 then v.writes (Elt F) X4 L5 else X4)
    (e6 : X6 = if h : k0_cond6 i w2 = 1#1 then v.writes (Elt F) X5 L6 else X5)
    (e7 : X7 = if h : k0_cond7 i w2 = 1#1 then v.writes (Elt F) X6 L7 else X6) :
    v.read (Elt F) X7 = outVec i ![w0, w1, w2] q ![x2, x3, x4] s := by
  funext y
  have hy : (y 0).val < 3 := (y 0).isLt
  rw [e7, read_dead v _ X6 2 L7 h7 y, (cond_eq i w2).2.2.2, e6, read_live v _ X5 _ w2 2 q x4 s L6 h6 y, (cond_eq i w2).2.1,
    e5, read_dead v _ X4 1 L5 h5 y, (cond_eq i w1).2.2.1, e4, read_live v _ X3 _ w1 1 q x3 s L4 h4 y, (cond_eq i w1).1,
    e3, read_dead v _ X2 0 L3 h3 y, e2, read_live v _ f _ w0 0 q x2 s L2 h2 y]
  obtain h0 | h0 | h0 : (y 0).val = (0 : Fin 3).val ∨ (y 0).val = (1 : Fin 3).val ∨ (y 0).val = (2 : Fin 3).val := by
    show (y 0).val = 0 ∨ (y 0).val = 1 ∨ (y 0).val = 2
    omega
  · have n1 : (y 0).val ≠ (1 : Fin 3).val := by rw [h0]; decide
    have n2 : (y 0).val ≠ (2 : Fin 3).val := by rw [h0]; decide
    rw [if_neg (fun h => n2 h.2), if_neg (fun h => n2 h.2), if_neg (fun h => n1 h.2), if_neg (fun h => n1 h.2)]
    by_cases hl : live i w0
    · rw [if_neg (fun h => (dead_iff i w0).mp h.1 hl), if_pos ⟨hl, h0⟩]
      exact (outVec_live i ![w0, w1, w2] q ![x2, x3, x4] s y 0 h0 hl).symm
    · rw [if_pos ⟨(dead_iff i w0).mpr hl, h0⟩]
      exact (outVec_dead i ![w0, w1, w2] q ![x2, x3, x4] s y 0 h0 hl).symm
  · have n2 : (y 0).val ≠ (2 : Fin 3).val := by rw [h0]; decide
    rw [if_neg (fun h => n2 h.2), if_neg (fun h => n2 h.2)]
    by_cases hl : live i w1
    · rw [if_neg (fun h => (dead_iff i w1).mp h.1 hl), if_pos ⟨hl, h0⟩]
      exact (outVec_live i ![w0, w1, w2] q ![x2, x3, x4] s y 1 h0 hl).symm
    · rw [if_pos ⟨(dead_iff i w1).mpr hl, h0⟩]
      exact (outVec_dead i ![w0, w1, w2] q ![x2, x3, x4] s y 1 h0 hl).symm
  · by_cases hl : live i w2
    · rw [if_neg (fun h => (dead_iff i w2).mp h.1 hl), if_pos ⟨hl, h0⟩]
      exact (outVec_live i ![w0, w1, w2] q ![x2, x3, x4] s y 2 h0 hl).symm
    · rw [if_pos ⟨(dead_iff i w2).mpr hl, h0⟩]
      exact (outVec_dead i ![w0, w1, w2] q ![x2, x3, x4] s y 2 h0 hl).symm

set_option maxHeartbeats 4000000 in
/-- One run of the body: from its input blocks, the lengths and the scratch, to its output block and the scratch after it. -/
theorem body_run (c : Dev nD) (i : grid0.Coords) (arg2 : Memref sig .tc .vmem S3x40x128 .bf16) (harg2 : arg2.IsWhole) (arg3 : Memref sig .tc .vmem S1x160 .i32) (harg3 : arg3.IsWhole) (arg4 : Memref sig .tc .vmem S1x10x16x2048 .i8) (harg4 : arg4.IsWhole) (arg5 : Memref sig .tc .vmem S1x10x16x2048 .i8) (harg5 : arg5.IsWhole) (arg6 : Memref sig .tc .vmem S1x10x16x2048 .i8) (harg6 : arg6.IsWhole) (arg7 : Memref sig .tc .vmem S10x3x4096 .f32) (harg7 : arg7.IsWhole) (arg8 : Memref sig .tc .vmem S3x40x4096 .f32) (harg8 : arg8.IsWhole) (arg9 : Memref sig .tc .vmem S3x40x160 .bf16) (harg9 : arg9.IsWhole)
    (x0 : Vec F S3x40x128 .bf16) (x1 : Vec F S1x160 .i32) (x2 : Vec F S1x10x16x2048 .i8) (x3 : Vec F S1x10x16x2048 .i8) (x4 : Vec F S1x10x16x2048 .i8) (x5 : Vec F S10x3x4096 .f32)
    (xt0 : TbBuf0 (F := F) c tbM0_0) (ds : Vec F S3x40x160 .bf16) (E : Set ℕ) (K : PUnit → sProp 𝕄) :
  iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare ds ∗ tbPt0 c tbM0_0 xt0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (outVec i (wd c xt0) (qAfter i x0 x1 ds) ![x2, x3, x4] x5) ∗ owns (c : Thread nD τ) arg9 fullShare (qAfter i x0 x1 ds) ∗ tbPt0 c tbM0_0 xt0) -∗ K ⟨⟩))
   ⊢ wp frame (wpE (defs₀ (F := F)) Variants.none c none) E (cc0_label_scores i tbM0_0 htbM0_0 arg2 harg2 arg3 harg3 arg4 harg4 arg5 harg5 arg6 harg6 arg7 harg7 arg8 harg8 arg9 harg9) K := by
  simp only [cc0_label_scores_eq_skeleton]; unfold cc0_label_scores_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, HT0, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hfs0
  sl_exec_parts
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  have hq := read_scrAfter i arg9 harg9 (arg2.view.read (Elt F) (harg2.unread x0)) (arg3.view.read (Elt F) (harg3.unread x1)) ds
  isplitl [H6]
  · iexists _; isplitr; swap
    · iexact H6
    · ipureintro
      refine (read_fold arg8.view _ i (wd c xt0 0) (wd c xt0 1) (wd c xt0 2) (arg9.view.read (Elt F) (scrAfter i arg9 harg9 (arg2.view.read (Elt F) (harg2.unread x0)) (arg3.view.read (Elt F) (harg3.unread x1)) ds)) (arg4.view.read (Elt F) (harg4.unread x2)) (arg5.view.read (Elt F) (harg5.unread x3)) (arg6.view.read (Elt F) (harg6.unread x4)) (arg7.view.read (Elt F) (harg7.unread x5)) _ _ _ _ _ _ ?h2 ?h3 ?h4 ?h5 ?h6 ?h7 _ _ _ _ _ _ rfl rfl rfl rfl rfl rfl).trans ?_
      case h3 => rfl
      case h5 => rfl
      case h7 => rfl
      case h2 => rfl
      case h4 => rfl
      case h6 => rfl
      rw [hq, harg2.read_unread, harg3.read_unread, harg4.read_unread, harg5.read_unread, harg6.read_unread, harg7.read_unread]
      have hw : (![wd c xt0 0, wd c xt0 1, wd c xt0 2] : Fin 3 → BitVec 32) = wd c xt0 := by
        funext b; fin_cases b <;> rfl
      rw [hw]
  isplitl [HS0]
  · iexists _; isplitr; swap
    · iexact HS0
    · ipureintro
      refine (show _ = arg9.view.read (Elt F) (scrAfter i arg9 harg9 (arg2.view.read (Elt F) (harg2.unread x0)) (arg3.view.read (Elt F) (harg3.unread x1)) ds) from rfl).trans ?_
      rw [hq, harg2.read_unread, harg3.read_unread]
  iexact HT0

end Cert.ScoresIdeal.Gen
end
-- ==== Proof.ScoresIdealSound.lean ====
/- The scores launch: its proof data and the body at every point. -/
module

public import proofs.«01_k».proof.Proof.ScoresIdealBody

@[expose] public section

set_option maxRecDepth 16384

noncomputable section

namespace Cert.ScoresIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The scratch from the first grid point on: the spread queries of the first point's blocks. -/
def q0 (hO : Ok m) (c : Dev nD) : Vec F S3x40x160 .bf16 :=
  qInit (iblk m hO c 0 ⟨0, by rw [show (cfgM m hO).N = 16 from N_0]; decide⟩) (iblk m hO c 1 ⟨0, by rw [show (cfgM m hO).N = 16 from N_0]; decide⟩)

/-- What the output's staging buffer and the carried scratch hold after the body at position `n`. -/
def outsAt0 (hO : Ok m) (c : Dev nD) (n : ℕ) (hn : n < (cfgM m hO).N) : Vec F S3x40x4096 .f32 × Vec F S3x40x160 .bf16 :=
  (outVec (grid0.coords ⟨n, hn⟩) (wd c (tbl m 0)) (q0 m hO c) ![iblk m hO c 2 ⟨n, hn⟩, iblk m hO c 3 ⟨n, hn⟩, iblk m hO c 4 ⟨n, hn⟩] (iblk m hO c 5 ⟨n, hn⟩), q0 m hO c)

/-- The first point leaves the spread queries in the scratch, -/
theorem qAfter_first (hO : Ok m) (c : Dev nD) (t : Fin (cfgM m hO).N) (ht : t.val = 0) (ds : Vec F S3x40x160 .bf16) :
    qAfter (grid0.coords t) (iblk m hO c 0 t) (iblk m hO c 1 t) ds = q0 m hO c := by
  have hc : cond0_0 (grid0.coords t) := (hcond0_0 t).mpr (by rw [ht])
  have e : t = ⟨0, by rw [show (cfgM m hO).N = 16 from N_0]; decide⟩ := Fin.ext ht
  subst e
  exact if_pos hc

/-- and every other point leaves it as it was. -/
theorem qAfter_later (hO : Ok m) (c : Dev nD) (t : Fin (cfgM m hO).N) (ht : t.val ≠ 0)
    (ds : Vec F S3x40x160 .bf16) : qAfter (grid0.coords t) (iblk m hO c 0 t) (iblk m hO c 1 t) ds = ds := by
  have hN : t.val < 16 := lt_of_lt_of_eq t.isLt (show (cfgM m hO).N = 16 from N_0)
  have hc : ¬ cond0_0 (grid0.coords t) := fun h => by have := (hcond0_0 t).mp h; omega
  exact if_neg hc

/-- The region invariant before position `n` with the scratch the kernel carries between points: before the first point the
    class's (Lib/Pipeline/Frame.lean `ΦA`: every scratch at anything); afterwards the scoped rest with each carried scratch
    at what the point before left in it (`outsAt0`'s scratch components), the others at anything, and the generator register
    at some state. -/
def PhiS (hO : Ok m) (c : Dev nD) : (n : ℕ) → n ≤ (cfgM m hO).N → sProp 𝕄
  | 0, _ => iprop(Pipeline.ΦA spec0 c ∗ Pipeline.ΦT pre0 (tbl m) c)
  | n + 1, hn => iprop(iprop(iprop(owns (c : Thread nD τ) scM0_0 fullShare ((outsAt0 m hO c n hn).2)) ∗ (∃ r, prngReg c r)) ∗ Pipeline.ΦT pre0 (tbl m) c)

/-- Before the first point nothing is carried: the scratch at anything. -/
theorem PhiS_zero (hO : Ok m) (c : Dev nD) (n : ℕ) (h : n ≤ (cfgM m hO).N) (hz : n = 0) : PhiS m hO c n h = iprop(Pipeline.ΦA spec0 c ∗ Pipeline.ΦT pre0 (tbl m) c) := by
  subst hz; rfl

/-- After point `n` (before point `n + 1`): the carried scratch at that point's contents. -/
theorem PhiS_succ (hO : Ok m) (c : Dev nD) (n : ℕ) (hn : n < (cfgM m hO).N) :
    PhiS m hO c (n + 1) hn = iprop(iprop(iprop(owns (c : Thread nD τ) scM0_0 fullShare ((outsAt0 m hO c n hn).2)) ∗ (∃ r, prngReg c r)) ∗ Pipeline.ΦT pre0 (tbl m) c) := rfl

/-- Before a point that is not the first: the carried scratch at what the point before left. -/
theorem PhiS_pos (hO : Ok m) (c : Dev nD) (n : ℕ) (h : n ≤ (cfgM m hO).N) (hz : n ≠ 0) :
    PhiS m hO c n h = iprop(iprop(iprop(owns (c : Thread nD τ) scM0_0 fullShare ((outsAt0 m hO c (n - 1) (by omega)).2)) ∗ (∃ r, prngReg c r)) ∗ Pipeline.ΦT pre0 (tbl m) c) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register) and the tables' halves (`ΦT`); nothing owed;
    each input's share of its array
    (`Pipeline.shareOf`: the full share of an array several windows stage, dealt among them). -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => (outsAt0 m hO c t.val t.isLt).1
  Φ t := PhiS m hO c t.val (Nat.le_of_lt_succ t.isLt)
  q w := Pipeline.shareOf spec0 w
  owed _ := 0

/-- The proof data's arrays are the region-entry contents: the proof data's definition projected (`dsimp`), so that
    `V` — a fold over @main's host prefix, long for some programs — is never unfolded to check it. -/
theorem A_eq (hO : Ok m) (c : Dev nD) (w : Fin (cfgM m hO).W) : (dats m hO 0 c).A w = V m c (Pipeline.arrRef spec0 w) := by
  dsimp only [dats]

/-- The invariant at a point's start (the proof data at `t.castSucc`), restated at `t.val`. -/
theorem PhiS_castSucc (hO : Ok m) (c : Dev nD) (t : Fin (cfgM m hO).N) :
    (dats m hO 0 c).Φ t.castSucc = PhiS m hO c t.val (Nat.le_of_lt t.isLt) := by
  dsimp only [dats]; exact Pipeline.Dat.Φ_castSucc (PhiS m hO c) t

/-- What the body leaves, window by window (the proof data's `match` reduced by `dsimp`). -/
theorem after0_0 (hO : Ok m) (c : Dev nD) (t : Fin (cfgM m hO).N) : (dats m hO 0 c).after 0 t = iblk m hO c 0 t := by dsimp only [dats]; try rfl
/-- The body leaves the label channels as they were. -/
theorem after0_1 (hO : Ok m) (c : Dev nD) (t : Fin (cfgM m hO).N) : (dats m hO 0 c).after 1 t = iblk m hO c 1 t := by dsimp only [dats]; try rfl
/-- The body leaves the first batch's codes as they were. -/
theorem after0_2 (hO : Ok m) (c : Dev nD) (t : Fin (cfgM m hO).N) : (dats m hO 0 c).after 2 t = iblk m hO c 2 t := by dsimp only [dats]; try rfl
/-- The body leaves the second batch's codes as they were. -/
theorem after0_3 (hO : Ok m) (c : Dev nD) (t : Fin (cfgM m hO).N) : (dats m hO 0 c).after 3 t = iblk m hO c 3 t := by dsimp only [dats]; try rfl
/-- The body leaves the third batch's codes as they were. -/
theorem after0_4 (hO : Ok m) (c : Dev nD) (t : Fin (cfgM m hO).N) : (dats m hO 0 c).after 4 t = iblk m hO c 4 t := by dsimp only [dats]; try rfl
/-- The body leaves the scales as they were. -/
theorem after0_5 (hO : Ok m) (c : Dev nD) (t : Fin (cfgM m hO).N) : (dats m hO 0 c).after 5 t = iblk m hO c 5 t := by dsimp only [dats]; try rfl
/-- The body leaves its scores in the output's buffer. -/
theorem after0_6 (hO : Ok m) (c : Dev nD) (t : Fin (cfgM m hO).N) : (dats m hO 0 c).after 6 t = (outsAt0 m hO c t.val t.isLt).1 := by dsimp only [dats]; try rfl

/-- Each input's current staging buffer holds its block at every point, fetched there or not (`beforeK_W_of`). -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
/-- The label channels are in their staging buffer at every point. -/
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
/-- The first batch's codes are in their staging buffer at every point. -/
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
/-- The second batch's codes are in their staging buffer at every point. -/
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
/-- The third batch's codes are in their staging buffer at every point. -/
theorem before0_4 (hO : Ok m) (c : Dev nD) (t : Fin (cfgM m hO).N) (d) : (dats m hO 0 c).before 4 t d = iblk m hO c 4 t :=
  before0_4_of m hO (dats m hO 0 c) (A_eq m hO c 4) (after0_4 m hO c) t d
/-- The scales are in their staging buffer at every point. -/
theorem before0_5 (hO : Ok m) (c : Dev nD) (t : Fin (cfgM m hO).N) (d) : (dats m hO 0 c).before 5 t d = iblk m hO c 5 t :=
  before0_5_of m hO (dats m hO 0 c) (A_eq m hO c 5) (after0_5 m hO c) t d

/-! ## The body obligation, at a generic point -/

/-- What the body is called with at point `t` (Lib/Pipeline.lean `BodyObligation`'s precondition, the windows one by one), -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d))
    ∗ (∃ d, owns (c : Thread nD τ) (ms0_6 m hO t) fullShare ((dats m hO 0 c).before 6 t d)))

/-- and what it returns. -/
def bodyPost (hO : Ok m) (c : Dev nD) (t : Fin (cfgM m hO).N) : sProp 𝕄 :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ owns (c : Thread nD τ) (ms0_3 m hO t) fullShare ((dats m hO 0 c).after 3 t)
    ∗ owns (c : Thread nD τ) (ms0_4 m hO t) fullShare ((dats m hO 0 c).after 4 t)
    ∗ owns (c : Thread nD τ) (ms0_5 m hO t) fullShare ((dats m hO 0 c).after 5 t)
    ∗ owns (c : Thread nD τ) (ms0_6 m hO t) fullShare ((dats m hO 0 c).after 6 t))

set_option maxHeartbeats 3200000 in
/-- The body at any point: the inputs' memrefs hold their blocks, so the run applies; the invariant hands the body the scratch (at anything at the
    first point) and takes it back at the spread queries. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3, before0_4, before0_5]
  rw [show (dats m hO 0 c).owesAt () t.succ = (dats m hO 0 c).owesAt () t.castSucc from rfl,
    after0_0, after0_1, after0_2, after0_3, after0_4, after0_5, after0_6]
  rw [show (dats m hO 0 c).Φ t.succ = PhiS m hO c (t.val + 1) t.isLt from rfl, PhiS_succ, PhiT0_eq]
  unfold outsAt0
  dsimp only
  by_cases hz : t.val = 0
  · rw [PhiS_castSucc m hO c t, PhiS_zero m hO c _ _ hz, PhiT0_eq, PhiA0_eq]
    iintro ⟨⟨⟨⟨%ds, HS0⟩, Hg⟩, HT0⟩, Ho, ⟨%d0, H0⟩, ⟨%d1, H1⟩, ⟨%d2, H2⟩, ⟨%d3, H3⟩, ⟨%d4, H4⟩, ⟨%d5, H5⟩, ⟨%d6, H6⟩⟩
    iapply (body_run c (grid0.coords t) _ (hs0_0 m hO t) _ (hs0_1 m hO t) _ (hs0_2 m hO t) _ (hs0_3 m hO t) _ (hs0_4 m hO t) _ (hs0_5 m hO t) _ (hs0_6 m hO t) scM0_0 (Memref.isWhole_whole _) (iblk m hO c 0 t) (iblk m hO c 1 t) (iblk m hO c 2 t) (iblk m hO c 3 t) (iblk m hO c 4 t) (iblk m hO c 5 t) (tbl m 0) _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS0]; · iexact HS0
    isplitl [HT0]; · iexact HT0
    rw [qAfter_first m hO c t hz]
    iintro ⟨H0, H1, H2, H3, H4, H5, H6, HS0, HT0⟩
    isplitl [HS0 Hg HT0]
    · isplitl [HS0 Hg]
      · isplitl [HS0]
        · iexact HS0
        iexact Hg
      iexact HT0
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · rw [PhiS_castSucc m hO c t, PhiS_pos m hO c _ _ hz, PhiT0_eq]
    unfold outsAt0
    dsimp only
    iintro ⟨⟨⟨HS0, Hg⟩, HT0⟩, Ho, ⟨%d0, H0⟩, ⟨%d1, H1⟩, ⟨%d2, H2⟩, ⟨%d3, H3⟩, ⟨%d4, H4⟩, ⟨%d5, H5⟩, ⟨%d6, H6⟩⟩
    iapply (body_run c (grid0.coords t) _ (hs0_0 m hO t) _ (hs0_1 m hO t) _ (hs0_2 m hO t) _ (hs0_3 m hO t) _ (hs0_4 m hO t) _ (hs0_5 m hO t) _ (hs0_6 m hO t) scM0_0 (Memref.isWhole_whole _) (iblk m hO c 0 t) (iblk m hO c 1 t) (iblk m hO c 2 t) (iblk m hO c 3 t) (iblk m hO c 4 t) (iblk m hO c 5 t) (tbl m 0) _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS0]; · iexact HS0
    isplitl [HT0]; · iexact HT0
    rw [qAfter_later m hO c t hz]
    iintro ⟨H0, H1, H2, H3, H4, H5, H6, HS0, HT0⟩
    isplitl [HS0 Hg HT0]
    · isplitl [HS0 Hg]
      · isplitl [HS0]
        · iexact HS0
        iexact Hg
      iexact HT0
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

end Cert.ScoresIdeal.Gen

end
-- ==== Proof.ScoresIdealFrame.lean ====
/- The frame of the scores launch: the body obligation, the run and the unchanged arguments. -/
module

public import proofs.«01_k».proof.Proof.ScoresIdealSound
public import Idealize.ShloMosaic.Lib.Claim

@[expose] public section

set_option maxRecDepth 16384

noncomputable section

namespace Cert.ScoresIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The output window is stored at every point: of the two conditions of a row one holds. -/
theorem idle0_6 (pf : pre0.Contents (Elt F)) (i : grid0.Coords) : idle0 pf 6 i = false := by
  have h : ∀ v : BitVec 32, (!(k0_cond2 i v == 1#1) && !(k0_cond3 i v == 1#1)) = false := fun v => by
    by_cases hl : live i v
    · rw [show (k0_cond2 i v == 1#1) = true from beq_iff_eq.mpr hl]; rfl
    · rw [show (k0_cond3 i v == 1#1) = true from beq_iff_eq.mpr ((dead_iff i v).mpr hl), Bool.not_true, Bool.and_false]
  have g : ∀ a b c d e f : Bool, (!a && !b) = false → (!a && !b && !c && !d && !e && !f) = false := by decide
  exact g _ _ _ _ _ _ (h _)

/-- The same of the launch's own configuration. -/
theorem idle6 (hO : Ok m) (i : grid0.Coords) : (cfgM m hO).idle 6 i = false := by
  have e : (cfgM m hO).idle = idle0 (tbl m) := rfl
  exact (congrFun (congrFun e 6) i).trans (idle0_6 (tbl m) i)

/-- The library's body obligation, at every point: the body's triple restated (Lib/Pipeline/FrameBody.lean `triple_restated`). -/
theorem body_obligation (hO : Ok m) (c : Dev nD) : BodyObligation (dats (F := F) m hO 0 c) (defs₀ (F := F)) Variants.none () Set.univ := fun t => by
  rw [bigSep_W0, bigSep_W0, defs₀_row m hO]
  refine triple_restated (sound_body m hO c t) rfl .rfl fun _ => ?_
  rw [idle6 m hO]
  exact .rfl

/-- What the launch hands the region (`ΦA`, the tables beside it) is the invariant before the first point. -/
theorem hin (hO : Ok m) (c : Dev nD) : iprop(Pipeline.ΦA spec0 c ∗ Pipeline.ΦT pre0 (tbl m) c) ⊢ (dats m hO 0 c).Φ 0 := by
  rw [show (dats m hO 0 c).Φ 0 = PhiS m hO c 0 (Nat.zero_le _) from rfl, PhiS_zero m hO c 0 _ rfl]
  try exact Idealize.SL.BI.Entails.refl _

/-- After any point but the first the invariant gives `ΦA` back: the carried scratch's named contents are forgotten (and the tables' halves dropped). -/
theorem Phi_out (hO : Ok m) (c : Dev nD) (t : Fin ((cfgM m hO).N + 1)) (ht : t.val ≠ 0) : (dats m hO 0 c).Φ t ⊢ Pipeline.ΦA spec0 c := by
  rw [show (dats m hO 0 c).Φ t = PhiS m hO c t.val (Nat.le_of_lt_succ t.isLt) from rfl, PhiS_pos m hO c _ _ ht, PhiA0_eq]
  iintro ⟨⟨HS0, Hg⟩, -⟩
  isplitl [HS0]
  · iexists _; iexact HS0
  iexact Hg

/-- The same after the last point. -/
theorem hout (hO : Ok m) (c : Dev nD) : (dats m hO 0 c).Φ (Fin.last (cfgM m hO).N) ⊢ Pipeline.ΦA spec0 c :=
  Phi_out m hO c _ (by rw [Fin.val_last]; have : (cfgM m hO).N = 16 := N_0; omega)

/-! ## The run and the frame -/

-- `θ_run_frameP_track_shared`'s implicit arguments are found by unifying its conclusion with this one, which takes unfolding plain
-- definitions in a metavariable's type
set_option backward.isDefEq.respectTransparency.types false in
/-- THE LAUNCH: the run, every semaphore counter of the machine at zero at every final state. -/
theorem run_main_quiescent (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP_track_shared (Q' := _) pcfgs (fun _ => adm m hO) (dats m hO) (0 : Fin 1) launch₀0 defs₀ Variants.none m ρ main
    (hbody := fun c => (body_obligation m hO c).loose) (hq := fun _ _ _ => rfl)
    (howed := fun _ _ => rfl) (V := V m) (hmain := hmain m Variants.none) (hA := A_eq m hO) (hpf := V_pre m)
    (hin := hin m hO) (hout := hout m hO)

/-- For any values, from any memory with zero counters: every weakly fair execution of @main on the
    TensorCores terminates, and every final state has every array of the pipeline at what the library computes from the
    proof data and every other unscoped buffer as the region found it (Lib/Pipeline/Frame.lean `FramePost`). -/
theorem run_main (hO : Ok m) : θ_run defs (onTc (τ := τ) (main (F := F))) (s₀ m ρ) (Pipeline.FramePost (Pipeline.pin pcfgs fun _ => adm m hO) (dats m hO) 0 (V m)) :=
  (θ_run defs _ _).mono (fun _ h => h.1) (run_main_quiescent m ρ hO)

/-- `frame` without the counters: the argument arrays end unchanged. -/
theorem unchanged (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ hO (dats m hO) (A_eq m hO) (run_main m ρ hO)

/-- The frame: the argument arrays end unchanged and the counters end at zero. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ hO) ((θ_run defs _ _).mono (fun _ h => h.2) (run_main_quiescent m ρ hO))

end Cert.ScoresIdeal.Gen

end
-- ==== Proof.ScoresIdealTable.lean ====
/- The prefetched lengths name a block of codes inside the array, whatever they are. -/
module

public import proofs.«01_k».proof.Proof.ScoresIdealFrame
public import proofs.«01_k».proof.Proof.ScoresWords

@[expose] public section

set_option maxRecDepth 16384

noncomputable section

namespace Cert.ScoresIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ScoresWords

variable {F : FTy → Type} [FloatOps F]

local notation "𝕄" => MT nD τ sig Unit (Elt F) ℕ (UR sig nD τ) ℕ

/-- A block of row 0 of the codes, at a block index within the array. -/
theorem codes_block0 (k : Nat) (hk : k ≤ 15) : ∃ h : (∀ a, ((![(0#32 : BitVec 32).toNat, (0#32 : BitVec 32).toNat, (0#32 : BitVec 32).toNat, k] : Fin 4 → ℕ) a + 1) * S1x10x16x2048.size a ≤ S3x10x16x32768.size a),
    EltTy.bits .i8 = 32 ∨ (Rect.block (s := S3x10x16x32768) S1x10x16x2048.size ![(0#32 : BitVec 32).toNat, (0#32 : BitVec 32).toNat, (0#32 : BitVec 32).toNat, k] h).WholeWords (EltTy.packing .i8) := by
  interval_cases k <;> exact ⟨by decide, .inr (by decide)⟩

/-- A block of row 1 of the codes, at a block index within the array. -/
theorem codes_block1 (k : Nat) (hk : k ≤ 15) : ∃ h : (∀ a, ((![(1#32 : BitVec 32).toNat, (0#32 : BitVec 32).toNat, (0#32 : BitVec 32).toNat, k] : Fin 4 → ℕ) a + 1) * S1x10x16x2048.size a ≤ S3x10x16x32768.size a),
    EltTy.bits .i8 = 32 ∨ (Rect.block (s := S3x10x16x32768) S1x10x16x2048.size ![(1#32 : BitVec 32).toNat, (0#32 : BitVec 32).toNat, (0#32 : BitVec 32).toNat, k] h).WholeWords (EltTy.packing .i8) := by
  interval_cases k <;> exact ⟨by decide, .inr (by decide)⟩

/-- A block of row 2 of the codes, at a block index within the array. -/
theorem codes_block2 (k : Nat) (hk : k ≤ 15) : ∃ h : (∀ a, ((![(2#32 : BitVec 32).toNat, (0#32 : BitVec 32).toNat, (0#32 : BitVec 32).toNat, k] : Fin 4 → ℕ) a + 1) * S1x10x16x2048.size a ≤ S3x10x16x32768.size a),
    EltTy.bits .i8 = 32 ∨ (Rect.block (s := S3x10x16x32768) S1x10x16x2048.size ![(2#32 : BitVec 32).toNat, (0#32 : BitVec 32).toNat, (0#32 : BitVec 32).toNat, k] h).WholeWords (EltTy.packing .i8) := by
  interval_cases k <;> exact ⟨by decide, .inr (by decide)⟩

/-- The side condition of the launch holds of every contents of the lengths. -/
theorem ok_all (pf : pre0.Contents (Elt F)) : ok0 pf :=
  ⟨fun i => codes_block0 _ (blockOf_le (i 0).val (i 0).isLt _), fun i => codes_block1 _ (blockOf_le (i 0).val (i 0).isLt _),
    fun i => codes_block2 _ (blockOf_le (i 0).val (i 0).isLt _)⟩

end Cert.ScoresIdeal.Gen

end
-- ==== Proof.ScoresIdealRun.lean ====
/- The scores kernel's run: its result array named, its arguments unchanged. -/
module

public import proofs.«01_k».proof.Proof.ScoresIdealTable
public import Idealize.ShloMosaic.Lib.Pipeline.Value

@[expose] public section

noncomputable section

namespace Cert.ScoresIdealRun

open Cert.ScoresIdeal Cert.ScoresIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- After the run the result's array is what the windows' write-backs leave. -/
theorem post6 (hO : Ok m) (r : PUnit × MemSt nD τ sig (Elt F))
    (h : Pipeline.FramePost (Pipeline.pin pcfgs fun _ => adm m hO) (dats m hO) 0 (V m) r) (c : Dev nD) :
    r.2.mem ((c : Thread nD τ).loc main_v4) = (dats m hO 0 c).arrAt 6 (cfgM m hO).N :=
  (h c).1 6

/-- The run with the result array named and the arguments unchanged. -/
theorem run_blocks (hO : Ok m) : θ_run defs (onTc (τ := τ) (main (F := F))) ⟨m, fun _ => 0, ρ⟩ fun r => ∀ c : Dev nD,
      r.2.mem ((c : Thread nD τ).loc main_v4) = (dats m hO 0 c).arrAt 6 (cfgM m hO).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨h.2 c, h.1 c⟩)
    (θ_run_and (unchanged m ρ hO) ((θ_run defs _ _).mono (fun r h c => post6 m hO r h c) (run_main m ρ hO)))

end Cert.ScoresIdealRun
-- ==== Proof.ScoresSpec.lean ====
/- What both scores programs compute: the approximate score of every past token from its row of 4-bit codes. -/
module

public import proofs.«01_k».proof.Proof.ScoresWords
public import Idealize.ShloMosaic.Lib.Pointwise

@[expose] public section

noncomputable section

namespace Cert.ScoresSpec

open Idealize.ShloMosaic Cert.Codes

/-! ## The codes -/

/-- Nibble `p` of a byte (0 the low one), as a signed number. -/
def nib (c : BitVec 8) (p : Nat) : Int :=
  let n : Int := if p = 0 then c.toNat % 16 else c.toNat / 16
  if 8 ≤ n then n - 16 else n

/-- The kernel's code of an even token: the low nibble moved up and masked, sixteen times its value. -/
theorem low_code : ∀ c : BitVec 8, ((c <<< 4) &&& 240#8).toInt = 16 * nib c 0 := by decide +kernel

/-- The kernel's code of an odd token: the high nibble masked, sixteen times its value. -/
theorem high_code : ∀ c : BitVec 8, (c &&& 240#8).toInt = 16 * nib c 1 := by decide +kernel

/-- The reference's low code. -/
theorem low_ref : ∀ c : BitVec 8, (Scalar.select (IntOp.cmpi .sge (IntOp.andi (c.setWidth 32) 15#32) 8#32)
    (IntOp.subi (IntOp.andi (c.setWidth 32) 15#32) 16#32) (IntOp.andi (c.setWidth 32) 15#32)).toInt = nib c 0 := by decide +kernel

/-- The reference's high code. -/
theorem high_ref : ∀ c : BitVec 8, (Scalar.select (IntOp.cmpi .sge (IntOp.shrsi .host (c.setWidth 32) 4#32) 8#32)
    (IntOp.subi (IntOp.shrsi .host (c.setWidth 32) 4#32) 16#32) (IntOp.shrsi .host (c.setWidth 32) 4#32)).toInt = nib c 1 := by decide +kernel

/-- How far the kernel shifts the words of a lane. -/
def shiftOf (j : Fin 128) : BitVec 32 := IntOp.muli (IntOp.subi 1#32 (IntOp.andi (BitVec.ofNat 32 j.val) 1#32)) 4#32

/-- Four bits in the even lanes, none in the odd ones. -/
theorem shiftOf_eq : ∀ j : Fin 128, shiftOf j = if j.val % 2 = 0 then 4#32 else 0#32 := by decide +kernel

/-- A byte of a word shifted by four and masked. -/
theorem byte_shift (w : BitVec 32) (i : Fin 4) : byte (IntOp.andi (IntOp.shli .vector w 4#32) 4042322160#32) i.val = (byte w i.val <<< 4) &&& 240#8 := by
  apply BitVec.eq_of_getLsbD_eq
  intro q hq
  fin_cases i <;> interval_cases q <;>
    simp [IntOp.andi, IntOp.shli, byte, BitVec.getLsbD_and, BitVec.getLsbD_extractLsb']

/-- A byte of a word only masked. -/
theorem byte_mask (w : BitVec 32) (i : Fin 4) : byte (IntOp.andi (IntOp.shli .vector w 0#32) 4042322160#32) i.val = byte w i.val &&& 240#8 := by
  apply BitVec.eq_of_getLsbD_eq
  intro q hq
  fin_cases i <;> interval_cases q <;>
    simp [IntOp.andi, IntOp.shli, byte, BitVec.getLsbD_and, BitVec.getLsbD_extractLsb']

/-- The code the kernel multiplies by, in lane `j`: sixteen times the nibble of the token's parity. -/
theorem code_lane (w : BitVec 32) (i : Fin 4) (j : Fin 128) :
    (byte (IntOp.andi (IntOp.shli .vector w (shiftOf j)) 4042322160#32) i.val).toInt = 16 * nib (byte w i.val) (j.val % 2) := by
  rw [shiftOf_eq]
  rcases Nat.mod_two_eq_zero_or_one j.val with h | h
  · rw [if_pos h, h, byte_shift, low_code]
  · rw [if_neg (by omega), h, byte_mask, high_code]

/-- Bytes read as words: byte `i` of the word at row `a` is the byte of row `4a + i`. -/
theorem byte_bitcast {R r n : Nat} (x : (⟨2, ![R, n]⟩ : Shape).Idx → BitVec 8) (h : (⟨2, ![R, n]⟩ : Shape).Bitcasts 8 ⟨2, ![r, n]⟩ 32)
    (a : Fin r) (l : Fin n) (i : Nat) (hi : i < 4) (p : Fin R) (hp : p.val = 4 * a.val + i) :
    byte (bitcast ⟨2, ![r, n]⟩ 32 x h (ix2 a l)) i = x (ix2 p l) := by
  apply BitVec.eq_of_getLsbD_eq
  intro q hq
  unfold byte
  rw [BitVec.getLsbD_extractLsb']
  simp only [hq, decide_true, Bool.true_and]
  refine (bitcast_8_32_getLsbD_ix2 x h a l (8 * i + q) (by omega) p (by omega)).trans ?_
  rw [show (8 * i + q) % 8 = q by omega]
  rfl

/-! ## The arithmetic -/

/-- The scale of the scores, the float nearest to one over the square root of 128. -/
def scale : EReal := Ideal.ofBits .f32 0x3DB504F3#32

/-- The kernel's scale is a sixteenth of it. -/
theorem scale_eq : Ideal.ofBits .f32 0x3BB504F3#32 * ((16 : ℝ) : EReal) = scale := by
  unfold scale
  have h1 : Ideal.ofBits .f32 0x3BB504F3#32 = (((11863283 : ℝ) * (2 : ℝ) ^ (-31 : Int) : ℝ) : EReal) := by
    simp [Ideal.ofBits, Ideal.ieee, -EReal.coe_mul]
  have h2 : Ideal.ofBits .f32 0x3DB504F3#32 = (((11863283 : ℝ) * (2 : ℝ) ^ (-27 : Int) : ℝ) : EReal) := by
    simp [Ideal.ofBits, Ideal.ieee, -EReal.coe_mul]
  rw [h1, h2, ← EReal.coe_mul]
  norm_num

/-- A positive number may be taken out of a sum, whatever infinities the sum has. -/
theorem mul_sum16 {ι : Type} (s : Finset ι) (f : ι → EReal) : ∑ i ∈ s, ((16 : ℝ) : EReal) * f i = ((16 : ℝ) : EReal) * ∑ i ∈ s, f i := by
  classical
  induction s using Finset.induction_on with
  | empty => simp
  | insert a s ha ih =>
    rw [Finset.sum_insert ha, Finset.sum_insert ha, ih,
      EReal.left_distrib_of_nonneg_of_ne_top (EReal.coe_nonneg.mpr (by norm_num)) (EReal.coe_ne_top _)]

/-- Where a channel word points. -/
def chan (w : BitVec 32) : Fin 128 := ⟨min w.toNat 127, by omega⟩

/-- The product with a one-hot column is the entry at the column's channel. -/
theorem pick (x : Fin 128 → EReal) (w : BitVec 32) (hw : w.toNat < 128) :
    ∑ d : Fin 128, x d * (((((IntOp.cmpi .eq (BitVec.ofNat 32 d.val) w).setWidth 32).toInt : ℝ)) : EReal) = x (chan w) := by
  rw [Finset.sum_eq_single (chan w)]
  · have e : BitVec.ofNat 32 (chan w).val = w := by
      apply BitVec.eq_of_toNat_eq; simp only [chan, BitVec.toNat_ofNat]; omega
    rw [e, show IntOp.cmpi .eq w w = 1#1 from StableHlo.Predicate.cmpi_eq_iff.mpr rfl]
    have : (((1#1 : BitVec 1).setWidth 32).toInt : ℝ) = 1 := by
      rw [show ((1#1 : BitVec 1).setWidth 32).toInt = 1 by decide]; norm_num
    rw [this, EReal.coe_one, mul_one]
  · intro d _ hd
    have h0 : IntOp.cmpi .eq (BitVec.ofNat 32 d.val) w = 0#1 := by
      rcases BitVec.eq_zero_or_eq_one (IntOp.cmpi .eq (BitVec.ofNat 32 d.val) w) with h | h
      · exact h
      · exfalso
        apply hd
        have := congrArg BitVec.toNat (StableHlo.Predicate.cmpi_eq_iff.mp h)
        have hd := d.isLt
        apply Fin.ext
        simp only [BitVec.toNat_ofNat] at this
        simp only [chan]
        omega
    rw [h0]
    have : (((0#1 : BitVec 1).setWidth 32).toInt : ℝ) = 0 := by
      rw [show ((0#1 : BitVec 1).setWidth 32).toInt = 0 by decide]; norm_num
    rw [this, EReal.coe_zero, mul_zero]
  · intro h; exact absurd (Finset.mem_univ _) h

/-- A product over all the lanes, of which only those of group `g` are not zero. -/
theorem sum_group (g : Fin 10) (f : Fin 16 → EReal) (k : Fin 160 → EReal) :
    ∑ c : Fin 160, (if g.val = c.val / 16 then f ⟨c.val % 16, Nat.mod_lt _ (by decide)⟩ else 0) * k c
      = ∑ l : Fin 16, f l * k ⟨g.val * 16 + l.val, by omega⟩ := by
  rw [Fin.sum_univ_tiles 10 16 rfl, Finset.sum_eq_single g]
  · refine Finset.sum_congr rfl fun l _ => ?_
    have h1 : (g.val * 16 + l.val) / 16 = g.val := by omega
    have h2 : (g.val * 16 + l.val) % 16 = l.val := by omega
    simp only [h1, h2, if_true]
  · intro g' _ hg
    refine Finset.sum_eq_zero fun l _ => ?_
    have h1 : (g'.val * 16 + l.val) / 16 = g'.val := by omega
    simp only [h1]
    rw [if_neg (fun h => hg (Fin.ext h.symm)), zero_mul]
  · intro h; exact absurd (Finset.mem_univ _) h

/-! ## The result, from the programs' arguments -/

variable (len : (⟨1, ![3]⟩ : Shape).Idx → BitVec 32) (x : (⟨3, ![3, 1, 5120]⟩ : Shape).Idx → EReal)
  (ch : (⟨2, ![10, 16]⟩ : Shape).Idx → BitVec 32) (cd : (⟨4, ![3, 10, 32768, 16]⟩ : Shape).Idx → BitVec 8)
  (sc : (⟨3, ![3, 10, 65536]⟩ : Shape).Idx → EReal)

/-- A query head's entry in a label channel of its key head. -/
def label (b : Fin 3) (h : Fin 40) (l : Fin 16) : EReal :=
  x (ix3 b 0 ⟨h.val * 128 + (chan (ch (ix2 ⟨h.val / 4, by omega⟩ l))).val, by omega⟩)

/-- A token's code in a label channel: its byte is shared with the other token of the pair. -/
def code (b : Fin 3) (g : Fin 10) (t : Fin 65536) (l : Fin 16) : EReal :=
  ((nib (cd (ix4 b g ⟨t.val / 2, by omega⟩ l)) (t.val % 2) : ℝ) : EReal)

/-- The approximate score of a token, zero past the row's length. -/
def score (b : Fin 3) (h : Fin 40) (t : Fin 65536) : EReal :=
  if IntOp.cmpi .slt (BitVec.ofNat 32 t.val) (len (ix1 b)) = 1#1 then
    scale * sc (ix3 b ⟨h.val / 4, by omega⟩ t) * ∑ l, label x ch b h l * code cd b ⟨h.val / 4, by omega⟩ t l
  else 0

/-- All the scores. -/
def scores (i : (⟨3, ![3, 40, 65536]⟩ : Shape).Idx) : EReal := score len x ch cd sc (i 0) (i 1) (i 2)

end Cert.ScoresSpec
-- ==== Proof.ScoresIdealBlock.lean ====
/- The scores kernel's tiles and spread queries, read at an index. -/
module

public import proofs.«01_k».proof.Proof.ScoresIdealTile
public import proofs.«01_k».proof.Proof.ScoresSpec

@[expose] public section

set_option maxRecDepth 16384

noncomputable section

namespace Cert.ScoresIdealBlock

open Idealize.ShloMosaic Cert.ScoresIdeal Cert.ScoresIdeal.Gen Cert.ScoresSpec Cert.Codes

/-- Byte `i` of a packed word is the code in its row. -/
theorem words_apply (x : Vec Ideal S1x10x16x2048 .i8) (c : Fin 160) (p : Fin 2048) :
    byte (k0_pay24 (F := Ideal) x (ix2 ⟨c.val / 4, by omega⟩ p)) (c.val % 4) = x (ix4 0 ⟨c.val / 16, by omega⟩ ⟨c.val % 16, by omega⟩ p) := by
  unfold k0_pay24
  refine (byte_bitcast _ _ ⟨c.val / 4, by omega⟩ p (c.val % 4) (by omega) c (by simp only; omega)).trans ?_
  pointwise []

/-- The word lane a token's codes come from. -/
def lane (n : Fin 32) (j : Fin 128) : Fin 2048 := ⟨128 * (n.val / 2) + (j.val / 2 + 64 * (n.val % 2)), by omega⟩

/-- The lane's place among the tile's words, -/
theorem laneIx_apply (n : Fin 32) (r : Fin 40) (j : Fin 128) : laneIx n (ix2 r j) = BitVec.ofNat 32 (j.val / 2 + 64 * (n.val % 2)) := by
  unfold laneIx
  split
  · rename_i h
    rw [h]
    pointwise [k0_pay22]
    revert j
    decide +kernel
  · rename_i h
    rw [show n.val % 2 = 1 by omega]
    pointwise [k0_pay23, k0_pay22]
    revert j
    decide +kernel

/-- which is not negative. -/
theorem lane_select (n : Fin 32) (j : Fin 128) (v : BitVec 32) (hv : v = BitVec.ofNat 32 (j.val / 2 + 64 * (n.val % 2))) :
    (Scalar.select (IntOp.cmpi .slt v 0#32) (IntOp.addi v 128#32) v).toNat % 128 = j.val / 2 + 64 * (n.val % 2) := by
  subst hv
  have h : ∀ k : Fin 128, (Scalar.select (IntOp.cmpi .slt (BitVec.ofNat 32 k.val) 0#32) (IntOp.addi (BitVec.ofNat 32 k.val) 128#32) (BitVec.ofNat 32 k.val)).toNat % 128 = k.val := by
    decide +kernel
  exact h ⟨j.val / 2 + 64 * (n.val % 2), by omega⟩

/-- The tile's words, spread over its tokens. -/
theorem gather_apply (w : IVec S40x2048 32) (n : Fin 32) (r : Fin 40) (j : Fin 128) :
    dynamicGather 1 (extractStridedSlice S40x128 ![0, 128 * (n.val / 2)] w (slW n))
      (select (cmpi CmpIPredicate.slt (laneIx n) (broadcast S40x128 0#32)) (addi (laneIx n) (broadcast S40x128 128#32)) (laneIx n)) (ix2 r j)
      = w (ix2 r (lane n j)) := by
  rw [dynamicGather_apply]
  have hl := lane_select n j _ (laneIx_apply n r j)
  refine Eq.trans (congrArg (extractStridedSlice S40x128 ![0, 128 * (n.val / 2)] w (slW n)) (a₂ := ix2 r ⟨j.val / 2 + 64 * (n.val % 2), by omega⟩) ?_) ?_
  · funext b
    fin_cases b
    · rfl
    · exact Fin.ext hl
  · pointwise []
    rfl

/-- The codes of a tile. -/
theorem codes_apply (x : Vec Ideal S1x10x16x2048 .i8) (n : Fin 32) (c : Fin 160) (j : Fin 128) :
    (bitcast S160x128 8 (andi (shli
        (dynamicGather 1 (extractStridedSlice S40x128 ![0, 128 * (n.val / 2)] (k0_pay24 (F := Ideal) x) (slW n))
          (select (cmpi CmpIPredicate.slt (laneIx n) (broadcast S40x128 0#32)) (addi (laneIx n) (broadcast S40x128 128#32)) (laneIx n)))
        k0_pay21) (broadcast S40x128 4042322160#32)) bitcasts_S40x128_w32_S160x128_w8 (ix2 c j)).toInt
      = 16 * nib (x (ix4 0 ⟨c.val / 16, by omega⟩ ⟨c.val % 16, by omega⟩ (lane n j))) (j.val % 2) := by
  rw [bitcast_byte _ bitcasts_S40x128_w32_S160x128_w8 c j ⟨c.val / 4, by omega⟩ rfl, ← words_apply x c (lane n j)]
  refine Eq.trans ?_ (code_lane _ ⟨c.val % 4, by omega⟩ j)
  rw [← gather_apply (k0_pay24 (F := Ideal) x) n ⟨c.val / 4, by omega⟩ j]
  congr 2
  pointwise [k0_pay21]
  rfl

/-- One score of a tile. -/
theorem tile_apply (arg0 v3 : BitVec 32) (x : Vec Ideal S1x10x16x2048 .i8) (n : Fin 32) (q : Vec Ideal S1x40x160 .bf16) (s : Vec Ideal S10x1x128 .f32)
    (r : Fin 40) (j : Fin 128) : tile (F := Ideal) arg0 v3 (k0_pay24 (F := Ideal) x) n q s (ix3 0 r j)
      = if IntOp.cmpi .slt (IntOp.addi (IntOp.addi (IntOp.muli arg0 4096#32) (BitVec.ofNat 32 (128 * n.val))) (BitVec.ofNat 32 j.val)) v3 = 1#1 then
          s (ix3 ⟨r.val / 4, by omega⟩ 0 j) * Ideal.ofBits .f32 0x3BB504F3#32 * ∑ c : Fin 160, q (ix3 0 r c)
            * (((16 * nib (x (ix4 0 ⟨c.val / 16, by omega⟩ ⟨c.val % 16, by omega⟩ (lane n j))) (j.val % 2) : Int) : ℝ) : EReal)
        else 0 := by
  pointwise [tile]
  unfold Scalar.select
  refine if_congr Iff.rfl (congrArg _ (Finset.sum_congr rfl fun c _ => congrArg _ ?_)) rfl
  rw [← codes_apply]
  rfl

/-- A query head's row of lanes keeps the lanes of its key head. -/
theorem mask_eq : ∀ (r : Fin 40) (c : Fin 160), (IntOp.cmpi CmpIPredicate.eq
        (Scalar.select
          (IntOp.andi
            (IntOp.cmpi CmpIPredicate.ne
              (IntOp.subi (BitVec.setWidth 32 (IntOp.cmpi CmpIPredicate.sgt (BitVec.ofNat 32 r.val) 0#32))
                (BitVec.setWidth 32 (IntOp.cmpi CmpIPredicate.slt (BitVec.ofNat 32 r.val) 0#32)))
              (Scalar.subi (Scalar.extui (Scalar.cmpi CmpIPredicate.sgt 4#32 0#32))
                (Scalar.extui (Scalar.cmpi CmpIPredicate.slt 4#32 0#32))))
            (IntOp.cmpi CmpIPredicate.ne (IntOp.remsi ArithUnit.vector (BitVec.ofNat 32 r.val) 4#32) 0#32))
          (IntOp.subi (IntOp.divsi ArithUnit.vector (BitVec.ofNat 32 r.val) 4#32) 1#32)
          (IntOp.divsi ArithUnit.vector (BitVec.ofNat 32 r.val) 4#32))
        (Scalar.select
          (IntOp.andi
            (IntOp.cmpi CmpIPredicate.ne
              (IntOp.subi (BitVec.setWidth 32 (IntOp.cmpi CmpIPredicate.sgt (BitVec.ofNat 32 c.val) 0#32))
                (BitVec.setWidth 32 (IntOp.cmpi CmpIPredicate.slt (BitVec.ofNat 32 c.val) 0#32)))
              (Scalar.subi (Scalar.extui (Scalar.cmpi CmpIPredicate.sgt 16#32 0#32))
                (Scalar.extui (Scalar.cmpi CmpIPredicate.slt 16#32 0#32))))
            (IntOp.cmpi CmpIPredicate.ne (IntOp.remsi ArithUnit.vector (BitVec.ofNat 32 c.val) 16#32) 0#32))
          (IntOp.subi (IntOp.divsi ArithUnit.vector (BitVec.ofNat 32 c.val) 16#32) 1#32)
          (IntOp.divsi ArithUnit.vector (BitVec.ofNat 32 c.val) 16#32)) = 1#1) ↔ r.val / 4 = c.val / 16 := by
  decide +kernel

/-- The spread queries of a row. -/
theorem qRow_apply (x1 : Vec Ideal S1x160 .i32) (x : Vec Ideal S1x40x128 .bf16) (r : Fin 40) (c : Fin 160) (h : (x1 (ix2 0 c)).toNat < 128) :
   qRow (F := Ideal) x1 x (ix3 0 r c) = if r.val / 4 = c.val / 16 then x (ix3 0 r (chan (x1 (ix2 0 c)))) else 0 := by
  pointwise [qRow, k0_pay1, k0_pay5, k0_pay16, k0_pay17, k0_pay18, k0_pay19, k0_pay20]
  unfold Scalar.select
  exact if_congr (mask_eq r c) (pick (fun d => x (ix3 0 r d)) _ h) rfl

/-- The score of a token: its scale, the constant, and the products of the label channels. -/
theorem score_sum (s : EReal) (g : Fin 10) (f : Fin 16 → EReal) (q : Fin 160 → EReal) (k : Fin 160 → Int)
    (hq : ∀ c : Fin 160, q c = if g.val = c.val / 16 then f ⟨c.val % 16, Nat.mod_lt _ (by decide)⟩ else 0) :
    s * Ideal.ofBits .f32 0x3BB504F3#32 * ∑ c : Fin 160, q c * (((16 * k c : Int) : ℝ) : EReal)
      = scale * s * ∑ l : Fin 16, f l * ((k ⟨g.val * 16 + l.val, by omega⟩ : ℝ) : EReal) := by
  have h : ∀ c : Fin 160, q c * (((16 * k c : Int) : ℝ) : EReal) = ((16 : ℝ) : EReal) * ((if g.val = c.val / 16 then f ⟨c.val % 16, Nat.mod_lt _ (by decide)⟩ else 0) * ((k c : ℝ) : EReal)) := by
    intro c
    rw [hq, show (((16 * k c : Int) : ℝ) : EReal) = ((16 : ℝ) : EReal) * ((k c : ℝ) : EReal) by rw [Int.cast_mul, EReal.coe_mul, Int.cast_ofNat], mul_left_comm]
  simp only [h]
  rw [mul_sum16, sum_group g f fun c => ((k c : ℝ) : EReal), ← scale_eq, ← mul_assoc]
  congr 1
  rw [mul_assoc, mul_comm]

end Cert.ScoresIdealBlock
-- ==== Proof.ScoresIdealArray.lean ====
/- The scores kernel's blocks at a grid point, read at an index, and where its output blocks lie. -/
module

public import proofs.«01_k».proof.Proof.ScoresIdealTable
public import proofs.«01_k».proof.Proof.ScoresIdealBlock
public import Idealize.ShloMosaic.Lib.Pipeline.ValueKit

@[expose] public section

set_option maxRecDepth 16384

noncomputable section

namespace Cert.ScoresIdealArray

open Idealize.ShloMosaic Idealize.ShloMosaic.TcCoe Idealize.SL.Sem Cert.ScoresIdeal Cert.ScoresIdeal.Gen Cert.ScoresSpec Cert.Codes Cert.ScoresWords
open Idealize.ShloMosaic.Pipeline (Dat)

variable (m : (ℓ : Loc nD τ sig) → Buf (Elt Ideal) ℓ)

/-- The grid is one axis long: a point is its own coordinate. -/
theorem grid_coord : ∀ t : Fin grid0.N, (grid0.coords t 0).val = t.val := by decide +kernel

/-- The length of row 0, as the body reads it. -/
theorem wd0 (c : Dev nD) : wd c (tbl m 0) 0 = m ((c : Thread nD τ).loc main_arg0) (ix1 0) := by
  obtain rfl : c = 0 := Subsingleton.elim _ _
  show m ((0 : Dev nD).tc.loc main_arg0) _ = _
  refine congrArg (m ((0 : Dev nD).tc.loc main_arg0)) ?_
  funext a
  exact Fin.ext (by revert a; decide)

/-- The length of row 1, as the body reads it. -/
theorem wd1 (c : Dev nD) : wd c (tbl m 0) 1 = m ((c : Thread nD τ).loc main_arg0) (ix1 1) := by
  obtain rfl : c = 0 := Subsingleton.elim _ _
  show m ((0 : Dev nD).tc.loc main_arg0) _ = _
  refine congrArg (m ((0 : Dev nD).tc.loc main_arg0)) ?_
  funext a
  exact Fin.ext (by revert a; decide)

/-- The length of row 2, as the body reads it. -/
theorem wd2 (c : Dev nD) : wd c (tbl m 0) 2 = m ((c : Thread nD τ).loc main_arg0) (ix1 2) := by
  obtain rfl : c = 0 := Subsingleton.elim _ _
  show m ((0 : Dev nD).tc.loc main_arg0) _ = _
  refine congrArg (m ((0 : Dev nD).tc.loc main_arg0)) ?_
  funext a
  exact Fin.ext (by revert a; decide)

/-- The label queries as the launch takes them, one row of channels per head. -/
theorem host0 (c : Dev nD) (b : Fin 3) (h : Fin 40) (d : Fin 128) :
    V m c main_v0 (ix3 b h d) = m ((c : Thread nD τ).loc main_arg1) (ix3 b 0 ⟨h.val * 128 + d.val, by omega⟩) := by
  entry_read
  pointwise

/-- The label channels as the launch takes them, in one row. -/
theorem host1 (c : Dev nD) (j : Fin 160) :
    V m c main_v1 (ix2 0 j) = m ((c : Thread nD τ).loc main_arg2) (ix2 ⟨j.val / 16, by omega⟩ ⟨j.val % 16, by omega⟩) := by
  entry_read
  pointwise

/-- The codes as the launch takes them, the tokens last. -/
theorem host2 (c : Dev nD) (b : Fin 3) (g : Fin 10) (l : Fin 16) (p : Fin 32768) :
    V m c main_v2 (ix4 b g l p) = m ((c : Thread nD τ).loc main_arg3) (ix4 b g p l) := by
  entry_read
  pointwise

/-- The scales as the launch takes them, the key heads first. -/
theorem host3 (c : Dev nD) (g : Fin 10) (b : Fin 3) (p : Fin 65536) :
    V m c main_v3 (ix3 g b p) = m ((c : Thread nD τ).loc main_arg4) (ix3 b g p) := by
  entry_read
  pointwise

/-- A grid point as a word. -/
theorem small (t : Fin grid0.N) : (BitVec.ofNat 32 (grid0.coords t 0).val).toNat = t.val := by
  rw [grid_coord, BitVec.toNat_ofNat]
  have : t.val < 16 := t.isLt
  omega

/-- The queries come whole. -/
theorem idx0 (a : (pcfg0 (F := Ideal)).Adm) (t : Fin grid0.N) : (pcfg0.win a 0).index t = ![0, 0, 0] := rfl
/-- So do the channels. -/
theorem idx1 (a : (pcfg0 (F := Ideal)).Adm) (t : Fin grid0.N) : (pcfg0.win a 1).index t = ![0, 0] := rfl
/-- A point takes its own block of scales,  -/
theorem idx5 (a : (pcfg0 (F := Ideal)).Adm) (t : Fin grid0.N) : (pcfg0.win a 5).index t = ![0, 0, t.val] := by
  rw [← small t]; rfl
/-- and writes its own block of scores. -/
theorem idx6 (a : (pcfg0 (F := Ideal)).Adm) (t : Fin grid0.N) : (pcfg0.win a 6).index t = ![0, 0, t.val] := by
  rw [← small t]; rfl

/-- The block of codes of row 0 that a point takes. -/
theorem idx2 (hO : Ok m) (c : Dev nD) (t : Fin grid0.N) : (pcfg0.win (adm m hO) 2).index t = ![0, 0, 0, (blockOf t.val (m ((c : Thread nD τ).loc main_arg0) (ix1 0))).toNat] := by
  rw [← wd0 m c, ← grid_coord t]
  rfl

/-- The block of codes of row 1 that a point takes. -/
theorem idx3 (hO : Ok m) (c : Dev nD) (t : Fin grid0.N) : (pcfg0.win (adm m hO) 3).index t = ![1, 0, 0, (blockOf t.val (m ((c : Thread nD τ).loc main_arg0) (ix1 1))).toNat] := by
  rw [← wd1 m c, ← grid_coord t]
  rfl

/-- The block of codes of row 2 that a point takes. -/
theorem idx4 (hO : Ok m) (c : Dev nD) (t : Fin grid0.N) : (pcfg0.win (adm m hO) 4).index t = ![2, 0, 0, (blockOf t.val (m ((c : Thread nD τ).loc main_arg0) (ix1 2))).toNat] := by
  rw [← wd2 m c, ← grid_coord t]
  rfl

/-- An axis of a block's place, the block's index replaced. -/
theorem axis {n v s x k : Nat} (h : n = v) (e : v * s + x = k) : n * s + x = k := h ▸ e

/-- The query block. -/
theorem block0 (hO : Ok m) (c : Dev nD) (t : Fin (cfgM m hO).N) (b : Fin 3) (h : Fin 40) (d : Fin 128) :
    iblk m hO c 0 t (ix3 b h d) = m ((c : Thread nD τ).loc main_arg1) (ix3 b 0 ⟨h.val * 128 + d.val, by omega⟩) := by
  refine Eq.trans ?_ (host0 m c b h d)
  blk_ext! [iblk]
  · exact axis (congrFun (idx0 _ t) 0) (by show 0 * 3 + _ = _; omega)
  · exact axis (congrFun (idx0 _ t) 1) (by show 0 * 40 + _ = _; omega)
  · exact axis (congrFun (idx0 _ t) 2) (by show 0 * 128 + _ = _; omega)

/-- The channel block. -/
theorem block1 (hO : Ok m) (c : Dev nD) (t : Fin (cfgM m hO).N) (j : Fin 160) :
    iblk m hO c 1 t (ix2 0 j) = m ((c : Thread nD τ).loc main_arg2) (ix2 ⟨j.val / 16, by omega⟩ ⟨j.val % 16, by omega⟩) := by
  refine Eq.trans ?_ (host1 m c j)
  blk_ext! [iblk]
  · exact (Nat.add_zero _).trans (congrFun (idx1 _ t) 0)
  · exact axis (congrFun (idx1 _ t) 1) (by show 0 * 160 + _ = _; omega)

/-- The code block of row 0. -/
theorem block2 (hO : Ok m) (c : Dev nD) (t : Fin (cfgM m hO).N) (g : Fin 10) (l : Fin 16) (p : Fin 2048) (k : Fin 32768)
    (hk : k.val = (blockOf t.val (m ((c : Thread nD τ).loc main_arg0) (ix1 0))).toNat * 2048 + p.val) :
    iblk m hO c 2 t (ix4 0 g l p) = m ((c : Thread nD τ).loc main_arg3) (ix4 0 g k l) := by
  have e := idx2 m hO c t
  generalize (blockOf t.val (m ((c : Thread nD τ).loc main_arg0) (ix1 0))).toNat = n at e hk
  refine Eq.trans ?_ (host2 m c 0 g l k)
  blk_ext! [iblk]
  · exact (congrFun e 0)
  · exact axis (v := 0) (congrFun e 1) (by omega)
  · exact axis (v := 0) (congrFun e 2) (by omega)
  · exact axis (v := n) (congrFun e 3) hk.symm

/-- The code block of row 1. -/
theorem block3 (hO : Ok m) (c : Dev nD) (t : Fin (cfgM m hO).N) (g : Fin 10) (l : Fin 16) (p : Fin 2048) (k : Fin 32768)
    (hk : k.val = (blockOf t.val (m ((c : Thread nD τ).loc main_arg0) (ix1 1))).toNat * 2048 + p.val) :
    iblk m hO c 3 t (ix4 0 g l p) = m ((c : Thread nD τ).loc main_arg3) (ix4 1 g k l) := by
  have e := idx3 m hO c t
  generalize (blockOf t.val (m ((c : Thread nD τ).loc main_arg0) (ix1 1))).toNat = n at e hk
  refine Eq.trans ?_ (host2 m c 1 g l k)
  blk_ext! [iblk]
  · exact (congrFun e 0)
  · exact axis (v := 0) (congrFun e 1) (by omega)
  · exact axis (v := 0) (congrFun e 2) (by omega)
  · exact axis (v := n) (congrFun e 3) hk.symm

/-- The code block of row 2. -/
theorem block4 (hO : Ok m) (c : Dev nD) (t : Fin (cfgM m hO).N) (g : Fin 10) (l : Fin 16) (p : Fin 2048) (k : Fin 32768)
    (hk : k.val = (blockOf t.val (m ((c : Thread nD τ).loc main_arg0) (ix1 2))).toNat * 2048 + p.val) :
    iblk m hO c 4 t (ix4 0 g l p) = m ((c : Thread nD τ).loc main_arg3) (ix4 2 g k l) := by
  have e := idx4 m hO c t
  generalize (blockOf t.val (m ((c : Thread nD τ).loc main_arg0) (ix1 2))).toNat = n at e hk
  refine Eq.trans ?_ (host2 m c 2 g l k)
  blk_ext! [iblk]
  · exact (congrFun e 0)
  · exact axis (v := 0) (congrFun e 1) (by omega)
  · exact axis (v := 0) (congrFun e 2) (by omega)
  · exact axis (v := n) (congrFun e 3) hk.symm

/-- The scale block. -/
theorem block5 (hO : Ok m) (c : Dev nD) (t : Fin (cfgM m hO).N) (g : Fin 10) (b : Fin 3) (j : Fin 4096) (k : Fin 65536)
    (hk : k.val = t.val * 4096 + j.val) :
    iblk m hO c 5 t (ix3 g b j) = m ((c : Thread nD τ).loc main_arg4) (ix3 b g k) := by
  refine Eq.trans ?_ (host3 m c g b k)
  blk_ext! [iblk]
  · exact axis (congrFun (idx5 _ t) 0) (by show 0 * 10 + _ = _; omega)
  · exact axis (congrFun (idx5 _ t) 1) (by show 0 * 3 + _ = _; omega)
  · exact axis (congrFun (idx5 _ t) 2) hk.symm

/-- Where the block of scores lies in its array. -/
theorem place6 (hO : Ok m) (t : Fin (cfgM m hO).N) (b : Fin 3) (h : Fin 40) (j : Fin 4096) (k : Fin 65536)
    (hk : k.val = t.val * 4096 + j.val) :
    (((cfgM m hO).win 6).blk t).view.emb (ix3 b h j) = ix3 b h k := by
  blk_ext
  · exact axis (congrFun (idx6 _ t) 0) (by show 0 * 3 + _ = _; omega)
  · exact axis (congrFun (idx6 _ t) 1) (by show 0 * 40 + _ = _; omega)
  · exact axis (congrFun (idx6 _ t) 2) hk.symm

/-- Every point writes its block of scores back. -/
theorem flush6 (a : (pcfg0 (F := Ideal)).Adm) (t : Fin grid0.N) : (pcfg0.win a 6).flush t = true := by
  rw [show (pcfg0.win a 6).flush t = (true && (decide (t.val + 1 = grid0.N) || decide (∃ h : t.val + 1 < grid0.N, (pcfg0.win a 6).index ⟨t.val + 1, h⟩ ≠ (pcfg0.win a 6).index t))) from rfl]
  rw [Bool.true_and, Bool.or_eq_true, decide_eq_true_eq, decide_eq_true_eq]
  by_cases h : t.val + 1 = grid0.N
  · exact .inl h
  · have h' : t.val + 1 < grid0.N := by have := t.isLt; omega
    refine .inr ⟨h', fun e => ?_⟩
    have e2 := congrFun e 2
    have e3 : t.val + 1 = t.val := ((congrFun (idx6 a ⟨t.val + 1, h'⟩) 2).symm.trans e2).trans (congrFun (idx6 a t) 2)
    omega

/-- The length of a row, as the body reads it. -/
theorem wd_all (c : Dev nD) (b : Fin 3) : wd c (tbl m 0) b = m ((c : Thread nD τ).loc main_arg0) (ix1 b) := by
  fin_cases b
  · exact wd0 m c
  · exact wd1 m c
  · exact wd2 m c

/-- The code block of a row. -/
theorem blockC (hO : Ok m) (c : Dev nD) (t : Fin (cfgM m hO).N) (b : Fin 3) (g : Fin 10) (l : Fin 16) (p : Fin 2048) (k : Fin 32768)
    (hk : k.val = (blockOf t.val (m ((c : Thread nD τ).loc main_arg0) (ix1 b))).toNat * 2048 + p.val) :
    (![iblk m hO c 2 t, iblk m hO c 3 t, iblk m hO c 4 t] : Fin 3 → Vec Ideal S1x10x16x2048 .i8) b (ix4 0 g l p)
      = m ((c : Thread nD τ).loc main_arg3) (ix4 b g k l) := by
  fin_cases b
  · exact block2 m hO c t g l p k hk
  · exact block3 m hO c t g l p k hk
  · exact block4 m hO c t g l p k hk

/-- The blocks of scores cover their array: an array that agrees with what every point writes is what the run leaves. -/
theorem final6 (hO : Ok m) (c : Dev nD) (G : Vec Ideal S3x40x65536 .f32)
    (hG : ∀ (t : Fin (cfgM m hO).N) (b : Fin 3) (h : Fin 40) (j : Fin 4096) (k : Fin 65536), k.val = t.val * 4096 + j.val →
      (outsAt0 m hO c t.val t.isLt).1 (ix3 b h j) = G (ix3 b h k)) :
    (dats m hO 0 c).arrAt 6 (cfgM m hO).N = G := by
  refine (dats m hO 0 c).arrAt_eq_of_emb 6 G (fun t hf (y : S3x40x4096.Idx) => ?_) fun (i : S3x40x65536.Idx) => ?_
  · blk_simp
    rw [after0_6]
    obtain ⟨b, h, j, rfl⟩ : ∃ (b : Fin 3) (h : Fin 40) (j : Fin 4096), y = ix3 b h j := ⟨y 0, y 1, y 2, eq_ix3 y⟩
    have ht : t.val < 16 := t.isLt
    rw [place6 m hO t b h j ⟨t.val * 4096 + j.val, by omega⟩ rfl]
    exact hG t b h j _ rfl
  · have hi : (i 2).val < 65536 := (i 2).isLt
    have ht : (i 2).val / 4096 < grid0.N := by show _ < 16; omega
    have key : ∀ t : Fin grid0.N, ∀ y, (((cfgM m hO).win 6).blk t).view.emb y = i → i ∈ (((cfgM m hO).win 6).blk t).view.set :=
      fun t y e => e ▸ View.emb_mem_set _ _
    refine ⟨⟨(i 2).val / 4096, ht⟩, flush6 _ _, ?_⟩
    have e := place6 m hO ⟨(i 2).val / 4096, ht⟩ (i 0) (i 1) ⟨(i 2).val % 4096, by omega⟩ (i 2) (by simp only; omega)
    exact key _ _ (e.trans (eq_ix3 i).symm)

end Cert.ScoresIdealArray
-- ==== Proof.ScoresIdealValue.lean ====
/- What the scores kernel leaves in its result: the scores. -/
module

public import proofs.«01_k».proof.Proof.ScoresIdealArray

@[expose] public section

set_option maxRecDepth 16384

noncomputable section

namespace Cert.ScoresIdealValue

open Idealize.ShloMosaic Idealize.ShloMosaic.TcCoe Idealize.SL.Sem Cert.ScoresIdeal Cert.ScoresIdeal.Gen Cert.ScoresSpec Cert.Codes Cert.ScoresWords
open Cert.ScoresIdealBlock Cert.ScoresIdealArray

/-- Row `b` of the scratch. -/
theorem ldQ (q : Vec Ideal S3x40x160 .bf16) (b : Fin 3) (h : Fin 40) (c : Fin 160) :
    View.ld q (Rect.unit (s := S3x40x160) ![b.val, 0, 0] S1x40x160.size (inbQ b)) (ix3 0 h c) = q (ix3 b h c) := by
  refine congrArg q (funext fun a => Fin.ext ?_)
  fin_cases a
  · show b.val + 1 * 0 = b.val; omega
  · show 0 + 1 * h.val = h.val; omega
  · show 0 + 1 * c.val = c.val; omega

/-- Row `b` of the queries. -/
theorem ldX (q : Vec Ideal S3x40x128 .bf16) (b : Fin 3) (h : Fin 40) (c : Fin 128) :
    View.ld q (Rect.unit (s := S3x40x128) ![b.val, 0, 0] S1x40x128.size (inbX b)) (ix3 0 h c) = q (ix3 b h c) := by
  refine congrArg q (funext fun a => Fin.ext ?_)
  fin_cases a
  · show b.val + 1 * 0 = b.val; omega
  · show 0 + 1 * h.val = h.val; omega
  · show 0 + 1 * c.val = c.val; omega

/-- The channels, whole. -/
theorem ldCh (x : Vec Ideal S1x160 .i32) (c : Fin 160) :
    View.ld x (Rect.unit (s := S1x160) ![0, 0] S1x160.size inb_S1x160_S1x160_0_0) (ix2 0 c) = x (ix2 0 c) := by
  refine congrArg x (funext fun a => Fin.ext ?_)
  fin_cases a
  · show 0 + 1 * 0 = 0; omega
  · show 0 + 1 * c.val = c.val; omega

/-- The codes, whole. -/
theorem ldC (x : Vec Ideal S1x10x16x2048 .i8) : View.ld x rectC = x := by
  funext i
  refine congrArg x (funext fun a => Fin.ext ?_)
  fin_cases a
  · show 0 + 1 * (i 0).val = (i 0).val; omega
  · show 0 + 1 * (i 1).val = (i 1).val; omega
  · show 0 + 1 * (i 2).val = (i 2).val; omega
  · show 0 + 1 * (i 3).val = (i 3).val; omega

/-- Tile `n` of row `b` of the scales. -/
theorem ldS (s : Vec Ideal S10x3x4096 .f32) (b : Fin 3) (n : Fin 32) (g : Fin 10) (j : Fin 128) (k : Fin 4096) (hk : k.val = 128 * n.val + j.val) :
    View.ld s (Rect.unit (s := S10x3x4096) ![0, b.val, 128 * n.val] S10x1x128.size (inbS b n)) (ix3 g 0 j) = s (ix3 g b k) := by
  refine congrArg s (funext fun a => Fin.ext ?_)
  fin_cases a
  · show 0 + 1 * g.val = g.val; omega
  · show b.val + 1 * 0 = b.val; omega
  · show 128 * n.val + 1 * j.val = k.val; omega

/-- A row of the output block at a token. -/
theorem rowVal_apply (arg0 v3 : BitVec 32) (b : Fin 3) (q : Vec Ideal S3x40x160 .bf16) (x : Vec Ideal S1x10x16x2048 .i8) (s : Vec Ideal S10x3x4096 .f32)
    (b' : Fin 3) (h : Fin 40) (n : Fin 32) (r : Fin 128) (j : Fin 4096) (hj : j.val = 128 * n.val + r.val) :
    rowVal (F := Ideal) arg0 v3 b q x s (ix3 b' h j)
      = if IntOp.cmpi .slt (IntOp.addi (IntOp.addi (IntOp.muli arg0 4096#32) (BitVec.ofNat 32 (128 * n.val))) (BitVec.ofNat 32 r.val)) v3 = 1#1 then
          s (ix3 ⟨h.val / 4, by omega⟩ b j) * Ideal.ofBits .f32 0x3BB504F3#32 * ∑ c : Fin 160, q (ix3 b h c)
            * (((16 * nib (x (ix4 0 ⟨c.val / 16, by omega⟩ ⟨c.val % 16, by omega⟩ (lane n r))) (r.val % 2) : Int) : ℝ) : EReal)
        else 0 := by
  have hn : j.val / 128 < 32 := by omega
  have hr : j.val % 128 < 128 := Nat.mod_lt _ (by decide)
  obtain rfl : n = ⟨j.val / 128, hn⟩ := Fin.ext (by show n.val = j.val / 128; omega)
  obtain rfl : r = ⟨j.val % 128, hr⟩ := Fin.ext (by show r.val = j.val % 128; omega)
  unfold rowVal
  rw [ldC]
  refine (tile_apply arg0 v3 x _ _ _ h ⟨j.val % 128, by omega⟩).trans ?_
  refine if_congr Iff.rfl (congrArg₂ (· * ·) (congrArg (· * _) ?_) (Finset.sum_congr rfl fun c _ => congrArg (· * _) (ldQ q b h c))) rfl
  exact ldS s b ⟨j.val / 128, by omega⟩ _ _ j (by show j.val = 128 * (j.val / 128) + j.val % 128; omega)

/-- The token of a tile's lane, as the body computes it. -/
theorem token_word (t : Nat) (n : Fin 32) (r : Fin 128) (k : Nat) (hk : k = t * 4096 + (128 * n.val + r.val)) :
    IntOp.addi (IntOp.addi (IntOp.muli (BitVec.ofNat 32 t) 4096#32) (BitVec.ofNat 32 (128 * n.val))) (BitVec.ofNat 32 r.val) = BitVec.ofNat 32 k := by
  show (BitVec.ofNat 32 t * 4096#32 + BitVec.ofNat 32 (128 * n.val)) + BitVec.ofNat 32 r.val = BitVec.ofNat 32 k
  apply BitVec.eq_of_toNat_eq
  simp only [BitVec.toNat_add, BitVec.toNat_mul, BitVec.toNat_ofNat]
  omega

/-- A point has live tokens in a row when its first token is below the row's length. -/
theorem live_iff (i : grid0.Coords) (w : BitVec 32) : live i w ↔ ((i 0).val * 4096 : Int) < w.toInt := by
  have hi : (i 0).val < 16 := (i 0).isLt
  unfold live k0_cond2
  simp only [Scalar.cmpi, Scalar.extui, WordCmp.cmpi_slt_eq]
  have e : (Scalar.muli (BitVec.ofNat 32 (i 0).val) 4096#32).toInt = ((i 0).val * 4096 : Int) := by
    have : (Scalar.muli (BitVec.ofNat 32 (i 0).val) 4096#32) = BitVec.ofNat 32 ((i 0).val * 4096) := by
      show BitVec.ofNat 32 (i 0).val * 4096#32 = _
      apply BitVec.eq_of_toNat_eq
      simp only [BitVec.toNat_mul, BitVec.toNat_ofNat]
      omega
    rw [this, StableHlo.Predicate.toInt_ofNat_small _ (by omega)]
    push_cast
    rfl
  rw [e]
  generalize w.toInt = b
  by_cases h : ((i 0).val * 4096 : Int) < b
  · rw [decide_eq_true h]; exact ⟨fun _ => h, fun _ => by decide⟩
  · rw [decide_eq_false h]; exact ⟨fun e => absurd e (by decide), fun e => absurd e h⟩

/-- The spread query of a head, at one of the 160 lanes. -/
theorem qInit_apply (x0 : Vec Ideal S3x40x128 .bf16) (x1 : Vec Ideal S1x160 .i32) (b : Fin 3) (h : Fin 40) (j : Fin 160)
    (hj : (x1 (ix2 0 j)).toNat < 128) :
    qInit x0 x1 (ix3 b h j) = if h.val / 4 = j.val / 16 then x0 (ix3 b h (chan (x1 (ix2 0 j)))) else 0 := by
  show rowInit x0 x1 b (ix3 0 h j) = _
  unfold rowInit
  refine (qRow_apply _ _ h j (by rw [ldCh]; exact hj)).trans ?_
  rw [ldX, ldCh]

/-- The same, of the channels' and the queries' entries in the arguments. -/
theorem qInit_label (A1 : Vec Ideal S3x1x5120 .bf16) (A2 : Vec Ideal S10x16 .i32) (x0 : Vec Ideal S3x40x128 .bf16) (x1 : Vec Ideal S1x160 .i32)
    (hch : ∀ (g : Fin 10) (l : Fin 16), (A2 (ix2 g l)).toNat < 128) (b : Fin 3) (h : Fin 40) (j : Fin 160)
    (e1 : x1 (ix2 0 j) = A2 (ix2 ⟨j.val / 16, by omega⟩ ⟨j.val % 16, by omega⟩))
    (e0 : ∀ d : Fin 128, x0 (ix3 b h d) = A1 (ix3 b 0 ⟨h.val * 128 + d.val, by omega⟩)) :
    qInit x0 x1 (ix3 b h j) = if h.val / 4 = j.val / 16 then label A1 A2 b h ⟨j.val % 16, Nat.mod_lt _ (by decide)⟩ else 0 := by
  refine (qInit_apply _ _ b h j (by rw [e1]; exact hch _ _)).trans ?_
  by_cases hg : h.val / 4 = j.val / 16
  · rw [if_pos hg, if_pos hg, e1, e0]
    unfold label
    simp only [hg]
  · rw [if_neg hg, if_neg hg]

/-- The spread query of a head after the first point, at one of the 160 lanes. -/
theorem q0_apply (m : (ℓ : Loc nD τ sig) → Buf (Elt Ideal) ℓ) (hO : Ok m) (c : Dev nD)
    (hch : ∀ (g : Fin 10) (l : Fin 16), (m ((c : Thread nD τ).loc main_arg2) (ix2 g l)).toNat < 128)
    (b : Fin 3) (h : Fin 40) (j : Fin 160) :
    q0 m hO c (ix3 b h j) = if h.val / 4 = j.val / 16 then
      label (m ((c : Thread nD τ).loc main_arg1)) (m ((c : Thread nD τ).loc main_arg2)) b h ⟨j.val % 16, Nat.mod_lt _ (by decide)⟩ else 0 :=
  qInit_label _ _ _ _ hch b h j (block1 m hO c _ j) (block0 m hO c _ b h)

/-- What a point leaves in its block of scores, of its blocks' entries. -/
theorem outVec_score (A0 : Vec Ideal S3 .i32) (A1 : Vec Ideal S3x1x5120 .bf16) (A2 : Vec Ideal S10x16 .i32)
    (A3 : Vec Ideal S3x10x32768x16 .i8) (A4 : Vec Ideal S3x10x65536 .f32)
    (i : grid0.Coords) (w : Fin 3 → BitVec 32) (q : Vec Ideal S3x40x160 .bf16) (x : Fin 3 → Vec Ideal S1x10x16x2048 .i8) (s : Vec Ideal S10x3x4096 .f32)
    (b : Fin 3) (h : Fin 40) (j : Fin 4096) (k : Fin 65536) (hk : k.val = (i 0).val * 4096 + j.val)
    (hq : ∀ c : Fin 160, q (ix3 b h c) = if h.val / 4 = c.val / 16 then label A1 A2 b h ⟨c.val % 16, Nat.mod_lt _ (by decide)⟩ else 0)
    (hs : s (ix3 ⟨h.val / 4, by omega⟩ b j) = A4 (ix3 b ⟨h.val / 4, by omega⟩ k))
    (hc : ∀ (g : Fin 10) (l : Fin 16) (p : Fin 2048) (k : Fin 32768), k.val = (blockOf (i 0).val (A0 (ix1 b))).toNat * 2048 + p.val →
      x b (ix4 0 g l p) = A3 (ix4 b g k l))
    (hw : w b = A0 (ix1 b)) (hl : (A0 (ix1 b)).toInt ≤ 2147479552) :
    outVec i w q x s (ix3 b h j) = score A0 A1 A2 A3 A4 b h k := by
  have hi : (i 0).val < 16 := (i 0).isLt
  have hk64 : k.val < 65536 := k.isLt
  have hkI : (BitVec.ofNat 32 k.val).toInt = (k.val : Int) := StableHlo.Predicate.toInt_ofNat_small _ (by omega)
  by_cases hv : live i (w b)
  · have hlt := (live_iff i (w b)).mp hv
    rw [hw] at hlt
    have hblk := blockOf_live (i 0).val hi _ hlt hl
    rw [hblk] at hc
    refine (outVec_live i w q x s (ix3 b h j) b rfl hv).trans ?_
    have hn : j.val / 128 < 32 := by omega
    have hr : j.val % 128 < 128 := Nat.mod_lt _ (by decide)
    refine (rowVal_apply _ _ b q (x b) s b h ⟨j.val / 128, hn⟩ ⟨j.val % 128, hr⟩ j (by show j.val = 128 * (j.val / 128) + j.val % 128; omega)).trans ?_
    rw [token_word (i 0).val ⟨j.val / 128, hn⟩ ⟨j.val % 128, hr⟩ k.val (by show k.val = (i 0).val * 4096 + (128 * (j.val / 128) + j.val % 128); omega), hw]
    unfold score
    refine if_congr Iff.rfl ?_ rfl
    refine (score_sum _ ⟨h.val / 4, by omega⟩ (label A1 A2 b h) (fun c => q (ix3 b h c))
      (fun c => nib (x b (ix4 0 ⟨c.val / 16, by omega⟩ ⟨c.val % 16, by omega⟩ (lane ⟨j.val / 128, hn⟩ ⟨j.val % 128, hr⟩))) (j.val % 128 % 2)) hq).trans ?_
    rw [hs]
    refine congrArg _ (Finset.sum_congr rfl fun l _ => congrArg _ ?_)
    unfold code
    have hlane : (lane ⟨j.val / 128, hn⟩ ⟨j.val % 128, hr⟩).val = j.val / 2 := by
      show 128 * (j.val / 128 / 2) + (j.val % 128 / 2 + 64 * (j.val / 128 % 2)) = _
      omega
    have hx := hc ⟨h.val / 4, by omega⟩ l (lane ⟨j.val / 128, hn⟩ ⟨j.val % 128, hr⟩) ⟨k.val / 2, by omega⟩ (by show k.val / 2 = _; rw [hlane]; omega)
    have hp : j.val % 128 % 2 = k.val % 2 := by omega
    have hg : (⟨(h.val / 4 * 16 + l.val) / 16, by omega⟩ : Fin 10) = ⟨h.val / 4, by omega⟩ := Fin.ext (by show (h.val / 4 * 16 + l.val) / 16 = h.val / 4; omega)
    have hll : (⟨(h.val / 4 * 16 + l.val) % 16, by omega⟩ : Fin 16) = l := Fin.ext (by show (h.val / 4 * 16 + l.val) % 16 = l.val; omega)
    show (((nib (x b (ix4 0 ⟨(h.val / 4 * 16 + l.val) / 16, _⟩ ⟨(h.val / 4 * 16 + l.val) % 16, _⟩ (lane ⟨j.val / 128, hn⟩ ⟨j.val % 128, hr⟩))) (j.val % 128 % 2) : Int) : ℝ) : EReal) = _
    rw [hg, hll, hx, hp]
  · have hge : ¬ ((i 0).val * 4096 : Int) < (A0 (ix1 b)).toInt := fun e => hv ((live_iff i (w b)).mpr (by rw [hw]; exact e))
    refine (outVec_dead i w q x s (ix3 b h j) b rfl hv).trans ?_
    unfold score
    rw [if_neg]
    · exact Ideal.ofBits_zero_f32
    · intro e
      rw [WordCmp.cmpi_slt_eq, hkI] at e
      have : ((k.val : Int) < (A0 (ix1 b)).toInt) := by
        by_contra hcon
        rw [decide_eq_false hcon] at e
        exact absurd e (by decide)
      omega

/-- What a point leaves in its block of scores. -/
theorem point (m : (ℓ : Loc nD τ sig) → Buf (Elt Ideal) ℓ) (hO : Ok m) (c : Dev nD)
    (hch : ∀ (g : Fin 10) (l : Fin 16), (m ((c : Thread nD τ).loc main_arg2) (ix2 g l)).toNat < 128)
    (hlen : ∀ b : Fin 3, (m ((c : Thread nD τ).loc main_arg0) (ix1 b)).toInt ≤ 2147479552)
    (t : Fin (cfgM m hO).N) (b : Fin 3) (h : Fin 40) (j : Fin 4096) (k : Fin 65536) (hk : k.val = t.val * 4096 + j.val) :
    (outsAt0 m hO c t.val t.isLt).1 (ix3 b h j)
      = score (m ((c : Thread nD τ).loc main_arg0)) (m ((c : Thread nD τ).loc main_arg1)) (m ((c : Thread nD τ).loc main_arg2))
          (m ((c : Thread nD τ).loc main_arg3)) (m ((c : Thread nD τ).loc main_arg4)) b h k := by
  have hti : (grid0.coords t 0).val = t.val := grid_coord t
  refine outVec_score _ _ _ _ _ (grid0.coords ⟨t.val, t.isLt⟩) _ _ _ _ b h j k (by rw [hti]; exact hk) (q0_apply m hO c hch b h)
    (block5 m hO c t ⟨h.val / 4, by omega⟩ b j k hk) ?_ (wd_all m c b) (hlen b)
  rw [hti]
  exact blockC m hO c t b

/-- The scores after the run. -/
theorem final (m : (ℓ : Loc nD τ sig) → Buf (Elt Ideal) ℓ) (hO : Ok m) (c : Dev nD)
    (hch : ∀ (g : Fin 10) (l : Fin 16), (m ((c : Thread nD τ).loc main_arg2) (ix2 g l)).toNat < 128)
    (hlen : ∀ b : Fin 3, (m ((c : Thread nD τ).loc main_arg0) (ix1 b)).toInt ≤ 2147479552) :
    (dats m hO 0 c).arrAt 6 (cfgM m hO).N
      = scores (m ((c : Thread nD τ).loc main_arg0)) (m ((c : Thread nD τ).loc main_arg1)) (m ((c : Thread nD τ).loc main_arg2))
          (m ((c : Thread nD τ).loc main_arg3)) (m ((c : Thread nD τ).loc main_arg4)) :=
  final6 m hO c _ fun t b h j k hk => point m hO c hch hlen t b h j k hk

end Cert.ScoresIdealValue
-- ==== Proof.ScoresReferenceValue.lean ====
/- The reference's scores, read at an index. -/
module

public import proofs.«01_k».proof.Proof.Gen.ScoresReferenceIdeal.Run
public import proofs.«01_k».proof.Proof.ScoresSpec

@[expose] public section

set_option maxRecDepth 16384

noncomputable section

namespace Cert.ScoresReferenceValue

open Idealize.ShloMosaic Cert.ScoresReferenceIdeal Cert.ScoresReferenceIdeal.Gen Cert.ScoresReferenceIdeal.Value Cert.ScoresSpec Cert.Codes

/-- The gather of the label channels reads, for a batch row, the query head and the channel its start index names. -/
theorem gather_apply {α : Type} (x : S3x40x128.Idx → α) (idx : IVec S40x16x2 32) (b : Fin 3) (h : Fin 40) (l : Fin 16) (h' : Fin 40) (d' : Fin 128)
    (hh : (idx (ix3 h l 0)).toInt = h'.val) (hd : (idx (ix3 h l 1)).toInt = d'.val) :
    Host.gather gather_S3x40x128_S40x16x2_S3x40x16_0_12_n_n_12_2_311 x idx (ix3 b h l) = x (ix3 b h' d') := by
  unfold Host.gather
  congr 1
  funext a
  apply Fin.ext
  match a with
  | ⟨0, _⟩ =>
    show 0 + 0 + b.val = b.val
    omega
  | ⟨1, _⟩ =>
    have e : GatherDims.siIdx gather_S3x40x128_S40x16x2_S3x40x16_0_12_n_n_12_2_311 (ix3 b h l) ⟨0, by decide⟩ = ix3 h l 0 := by
      funext k
      match k with
      | ⟨0, _⟩ => rfl
      | ⟨1, _⟩ => rfl
      | ⟨2, _⟩ => rfl
    refine (show _ = min (idx (GatherDims.siIdx gather_S3x40x128_S40x16x2_S3x40x16_0_12_n_n_12_2_311 (ix3 b h l) ⟨0, by decide⟩)).toInt.toNat 39 + 0 + 0 from rfl).trans ?_
    rw [e, hh]
    show min (Int.toNat (h'.val : Int)) 39 + 0 + 0 = h'.val
    omega
  | ⟨2, _⟩ =>
    have e : GatherDims.siIdx gather_S3x40x128_S40x16x2_S3x40x16_0_12_n_n_12_2_311 (ix3 b h l) ⟨1, by decide⟩ = ix3 h l 1 := by
      funext k
      match k with
      | ⟨0, _⟩ => rfl
      | ⟨1, _⟩ => rfl
      | ⟨2, _⟩ => rfl
    refine (show _ = min (idx (GatherDims.siIdx gather_S3x40x128_S40x16x2_S3x40x16_0_12_n_n_12_2_311 (ix3 b h l) ⟨1, by decide⟩)).toInt.toNat 127 + 0 + 0 from rfl).trans ?_
    rw [e, hd]
    show min (Int.toNat (d'.val : Int)) 127 + 0 + 0 = d'.val
    omega

/-- The first of the two joined columns, -/
theorem cat0 (f g : IVec S40x16x1 32) (h : Fin 40) (l : Fin 16) :
    concatenate S40x16x2 2 [⟨S40x16x1, f⟩, ⟨S40x16x1, g⟩] concatenates_S40x16x1_S40x16x1_S40x16x2_d2 (ix3 h l 0) = f (ix3 h l 0) := by
  pointwise []

/-- and the second. -/
theorem cat1 (f g : IVec S40x16x1 32) (h : Fin 40) (l : Fin 16) :
    concatenate S40x16x2 2 [⟨S40x16x1, f⟩, ⟨S40x16x1, g⟩] concatenates_S40x16x1_S40x16x1_S40x16x2_d2 (ix3 h l 1) = g (ix3 h l 0) := by
  pointwise []

/-- Row numbers are not negative, -/
theorem row_word : ∀ h : Fin 40, (Scalar.select (IntOp.cmpi .slt (BitVec.ofNat 32 h.val) 0#32) (IntOp.addi (BitVec.ofNat 32 h.val) 40#32) (BitVec.ofNat 32 h.val)).toInt = h.val := by
  decide +kernel

/-- nor are the channels in range. -/
theorem chan_word (w : BitVec 32) (hw : w.toNat < 128) :
    (Scalar.select (IntOp.cmpi .slt w 0#32) (IntOp.addi w 128#32) w).toInt = (chan w).val := by
  have h : ∀ k : Fin 128, (Scalar.select (IntOp.cmpi .slt (BitVec.ofNat 32 k.val) 0#32) (IntOp.addi (BitVec.ofNat 32 k.val) 128#32) (BitVec.ofNat 32 k.val)).toInt = k.val := by
    decide +kernel
  have e : BitVec.ofNat 32 w.toNat = w := by simp
  have := h ⟨w.toNat, hw⟩
  rw [show BitVec.ofNat 32 (⟨w.toNat, hw⟩ : Fin 128).val = w from e] at this
  rw [this]
  simp only [chan]
  omega

/-- The query heads are 128 entries each. -/
theorem heads_apply (x : S3x1x5120.Idx → EReal) (b : Fin 3) (h : Fin 40) (d : Fin 128) :
    shapeCast S3x40x128 x shapeCasts_S3x1x5120_S3x40x128 (ix3 b h d) = x (ix3 b 0 ⟨h.val * 128 + d.val, by omega⟩) := by
  pointwise []

/-- The gathered rows' first start index, -/
theorem start0 (g : IVec S40x16x1 32) (h : Fin 40) (l : Fin 16) :
    (concatenate S40x16x2 2 [⟨S40x16x1, broadcastInDim S40x16x1 ![0, 1] bcast_S40x16_S40x16x1_0_1
                        (broadcastInDim S40x16 ![0, 1] bcast_S40x1_S40x16_0_1
                          (select
                            (cmpi CmpIPredicate.slt (broadcastInDim S40x1 ![0] bcast_S40_S40x1_0 (iotaInDim S40 32 0))
                              (broadcastInDim S40x1 ![] bcast_S_S40x1 (constantI S_ 32 0#32)))
                            (addi (broadcastInDim S40x1 ![0] bcast_S40_S40x1_0 (iotaInDim S40 32 0))
                              (broadcastInDim S40x1 ![] bcast_S_S40x1 (constantI S_ 32 40#32)))
                            (broadcastInDim S40x1 ![0] bcast_S40_S40x1_0 (iotaInDim S40 32 0))))⟩, ⟨S40x16x1, g⟩]
                  concatenates_S40x16x1_S40x16x1_S40x16x2_d2 (ix3 h l 0)).toInt = h.val := by
  rw [cat0]
  pointwise []
  exact row_word h

/-- and their second. -/
theorem start1 (f : IVec S40x16x1 32) (ch : IVec S10x16 32) (h : Fin 40) (l : Fin 16) (hw : (ch (ix2 ⟨h.val / 4, by omega⟩ l)).toNat < 128) :
    (concatenate S40x16x2 2 [⟨S40x16x1, f⟩, ⟨S40x16x1,
                      broadcastInDim S40x16x1 ![0, 1] bcast_S40x16_S40x16x1_0_1
                        (select
                          (cmpi CmpIPredicate.slt
                            (shapeCast S40x16
                              (broadcastInDim S10x4x16 ![0, 2] bcast_S10x16_S10x4x16_0_2 ch)
                              shapeCasts_S10x4x16_S40x16)
                            (broadcastInDim S40x16 ![] bcast_S_S40x16 (constantI S_ 32 0#32)))
                          (addi
                            (shapeCast S40x16
                              (broadcastInDim S10x4x16 ![0, 2] bcast_S10x16_S10x4x16_0_2 ch)
                              shapeCasts_S10x4x16_S40x16)
                            (broadcastInDim S40x16 ![] bcast_S_S40x16 (constantI S_ 32 128#32)))
                          (shapeCast S40x16
                            (broadcastInDim S10x4x16 ![0, 2] bcast_S10x16_S10x4x16_0_2 ch)
                            shapeCasts_S10x4x16_S40x16))⟩]
                  concatenates_S40x16x1_S40x16x1_S40x16x2_d2 (ix3 h l 1)).toInt = (chan (ch (ix2 ⟨h.val / 4, by omega⟩ l))).val := by
  rw [cat1]
  have e := chan_word _ hw
  pointwise []
  exact e

/-- The gather's start indices. -/
def starts (ch : IVec S10x16 32) : IVec S40x16x2 32 :=
  concatenate S40x16x2 2 [⟨S40x16x1, broadcastInDim S40x16x1 ![0, 1] bcast_S40x16_S40x16x1_0_1
                        (broadcastInDim S40x16 ![0, 1] bcast_S40x1_S40x16_0_1
                          (select
                            (cmpi CmpIPredicate.slt (broadcastInDim S40x1 ![0] bcast_S40_S40x1_0 (iotaInDim S40 32 0))
                              (broadcastInDim S40x1 ![] bcast_S_S40x1 (constantI S_ 32 0#32)))
                            (addi (broadcastInDim S40x1 ![0] bcast_S40_S40x1_0 (iotaInDim S40 32 0))
                              (broadcastInDim S40x1 ![] bcast_S_S40x1 (constantI S_ 32 40#32)))
                            (broadcastInDim S40x1 ![0] bcast_S40_S40x1_0 (iotaInDim S40 32 0))))⟩, ⟨S40x16x1,
                      broadcastInDim S40x16x1 ![0, 1] bcast_S40x16_S40x16x1_0_1
                        (select
                          (cmpi CmpIPredicate.slt
                            (shapeCast S40x16
                              (broadcastInDim S10x4x16 ![0, 2] bcast_S10x16_S10x4x16_0_2 ch)
                              shapeCasts_S10x4x16_S40x16)
                            (broadcastInDim S40x16 ![] bcast_S_S40x16 (constantI S_ 32 0#32)))
                          (addi
                            (shapeCast S40x16
                              (broadcastInDim S10x4x16 ![0, 2] bcast_S10x16_S10x4x16_0_2 ch)
                              shapeCasts_S10x4x16_S40x16)
                            (broadcastInDim S40x16 ![] bcast_S_S40x16 (constantI S_ 32 128#32)))
                          (shapeCast S40x16
                            (broadcastInDim S10x4x16 ![0, 2] bcast_S10x16_S10x4x16_0_2 ch)
                            shapeCasts_S10x4x16_S40x16))⟩]
                  concatenates_S40x16x1_S40x16x1_S40x16x2_d2

/-- One half of the reference's scores: a token's scale and its label channels. -/
theorem half (len : S3.Idx → BitVec 32) (x : S3x1x5120.Idx → EReal) (ch : IVec S10x16 32) (cd : S3x10x32768x16.Idx → BitVec 8) (sc : S3x10x65536.Idx → EReal)
    (b : Fin 3) (h : Fin 40) (t : Fin 65536) (idx : IVec S40x16x2 32) (k : Fin 16 → BitVec 32) (i : Fin 65536) (hi : i.val = t.val)
    (e0 : ∀ l, (idx (ix3 h l 0)).toInt = h.val) (e1 : ∀ l, (idx (ix3 h l 1)).toInt = (chan (ch (ix2 ⟨h.val / 4, by omega⟩ l))).val)
    (hk : ∀ l, (k l).toInt = nib (cd (ix4 b ⟨h.val / 4, by omega⟩ ⟨t.val / 2, by omega⟩ l)) (t.val % 2)) :
    Ideal.ofBits FTy.f32 1035273459#32 * sc (ix3 b ⟨h.val / 4, by omega⟩ i) * ∑ l : Fin 16,
        Host.gather gather_S3x40x128_S40x16x2_S3x40x16_0_12_n_n_12_2_311 (shapeCast S3x40x128 x shapeCasts_S3x1x5120_S3x40x128) idx (ix3 b h l)
          * FloatOps.sitofp (F := Ideal) FTy.bf16 (k l)
      = scale * sc (ix3 b ⟨h.val / 4, by omega⟩ t) * ∑ l, label x ch b h l * code cd b ⟨h.val / 4, by omega⟩ t l := by
  obtain rfl : i = t := Fin.ext hi
  refine congrArg (scale * sc (ix3 b ⟨h.val / 4, by omega⟩ i) * ·) (Finset.sum_congr rfl fun l _ => ?_)
  rw [gather_apply _ _ b h l h _ (e0 l) (e1 l), heads_apply]
  unfold label code
  rw [← hk l]
  rfl

/-- A choice read as a conditional, its branches rewritten. -/
theorem select_eq {α : Type} (p : BitVec 1) (a a' z z' : α) (ha : a = a') (hz : z = z') : Scalar.select p a z = if p = 1#1 then a' else z' := by
  subst ha hz
  rfl

set_option maxHeartbeats 1000000 in
/-- The reference's scores. -/
theorem res (m : (ℓ : Loc nD τ sig) → Buf (Elt Ideal) ℓ) (c : Dev nD)
    (hch : ∀ (g : Fin 10) (l : Fin 16), (m (c.tc.loc main_arg2) (ix2 g l)).toNat < 128) (b : Fin 3) (h : Fin 40) (t : Fin 65536) :
    res_main_v65 (F := Ideal) m c (ix3 b h t) = score (m (c.tc.loc main_arg0)) (m (c.tc.loc main_arg1)) (m (c.tc.loc main_arg2))
      (m (c.tc.loc main_arg3)) (m (c.tc.loc main_arg4)) b h t := by
  obtain ⟨Z, hZ⟩ : ∃ Z, Z = score (m (c.tc.loc main_arg0)) (m (c.tc.loc main_arg1)) (m (c.tc.loc main_arg2))
      (m (c.tc.loc main_arg3)) (m (c.tc.loc main_arg4)) b h t := ⟨_, rfl⟩
  rw [← hZ]
  have hl : ∀ l : Fin 16, (m (c.tc.loc main_arg2) (ix2 ⟨h.val / 4, by omega⟩ l)).toNat < 128 := fun l => hch _ l
  clear hch
  generalize e0 : m (c.tc.loc main_arg0) = A0 at *
  generalize e1 : m (c.tc.loc main_arg1) = A1 at *
  generalize e2 : m (c.tc.loc main_arg2) = A2 at *
  generalize e3 : m (c.tc.loc main_arg3) = A3 at *
  generalize e4 : m (c.tc.loc main_arg4) = A4 at *
  unfold res_main_v65
  rw [e0, e1, e2, e3, e4]
  clear e0 e1 e2 e3 e4
  pointwise []
  rw [hZ]
  unfold score
  refine select_eq _ _ _ _ _ ?_ Ideal.ofBits_zero_f32
  split
  · rename_i hp
    refine (congrArg₂ (· * ·) (congrArg₂ (· * ·) rfl rfl) (Finset.sum_congr rfl fun l _ => congrArg₂ (· * ·) ?_ ?_)).trans
      (half A0 A1 A2 A3 A4 b h t (starts A2)
        (fun l => Scalar.select (IntOp.cmpi .sge (IntOp.andi (BitVec.setWidth 32 (A3 (ix4 b ⟨h.val / 4, by omega⟩ ⟨t.val / 2, by omega⟩ l))) 15#32) 8#32) (IntOp.subi (IntOp.andi (BitVec.setWidth 32 (A3 (ix4 b ⟨h.val / 4, by omega⟩ ⟨t.val / 2, by omega⟩ l))) 15#32) 16#32) (IntOp.andi (BitVec.setWidth 32 (A3 (ix4 b ⟨h.val / 4, by omega⟩ ⟨t.val / 2, by omega⟩ l))) 15#32))
        ⟨t.val / 2 * 2, by omega⟩ ?_ ?_ ?_ ?_)
    · rfl
    · rfl
    · show t.val / 2 * 2 = t.val
      omega
    · exact fun l => start0 _ h l
    · exact fun l => start1 _ A2 h l (hl l)
    · intro l
      rw [show t.val % 2 = 0 by omega]
      exact low_ref _
  · rename_i hp
    refine (congrArg₂ (· * ·) (congrArg₂ (· * ·) rfl rfl) (Finset.sum_congr rfl fun l _ => congrArg₂ (· * ·) ?_ ?_)).trans
      (half A0 A1 A2 A3 A4 b h t (starts A2)
        (fun l => Scalar.select (IntOp.cmpi .sge (IntOp.shrsi .host (BitVec.setWidth 32 (A3 (ix4 b ⟨h.val / 4, by omega⟩ ⟨t.val / 2, by omega⟩ l))) 4#32) 8#32) (IntOp.subi (IntOp.shrsi .host (BitVec.setWidth 32 (A3 (ix4 b ⟨h.val / 4, by omega⟩ ⟨t.val / 2, by omega⟩ l))) 4#32) 16#32) (IntOp.shrsi .host (BitVec.setWidth 32 (A3 (ix4 b ⟨h.val / 4, by omega⟩ ⟨t.val / 2, by omega⟩ l))) 4#32))
        ⟨t.val / 2 * 2 + 1, by omega⟩ ?_ ?_ ?_ ?_)
    · rfl
    · rfl
    · show t.val / 2 * 2 + 1 = t.val
      omega
    · exact fun l => start0 _ h l
    · exact fun l => start1 _ A2 h l (hl l)
    · intro l
      rw [show t.val % 2 = 1 by omega]
      exact high_ref _

end Cert.ScoresReferenceValue
-- ==== Proof.ScoresPre.lean ====
/- What the precondition of the scores says of the channels and the lengths. -/
module

public import proofs.«01_k».proof.Proof.Gen.Pre_scores_in_range
public import Idealize.ShloMosaic.Lib.Pointwise
public import Idealize.ShloMosaic.Lib.WordCmp
public import Idealize.ShloMosaic.Lib.StableHlo.Predicate

@[expose] public section

noncomputable section

namespace Cert.ScoresPre

open Idealize.ShloMosaic Cert.Pre_scores_in_range

/-- The precondition at an index. -/
theorem fn_apply {F : FTy → Type} [FloatOps F] (a0 : IVec S3 32) (a1 : FVec F S3x1x5120 .bf16) (a2 : IVec S10x16 32) (a3 : IVec S3x10x32768x16 8)
    (a4 : FVec F S3x10x65536 .f32) (b : Fin 3) (g : Fin 10) (l : Fin 16) :
    fn (F := F) a0 a1 a2 a3 a4 (ix3 b g l)
      = IntOp.andi (IntOp.andi (IntOp.cmpi .sge (a2 (ix2 g l)) 0#32) (IntOp.cmpi .slt (a2 (ix2 g l)) 128#32)) (IntOp.cmpi .sle (a0 (ix1 b)) 2147479552#32) := by
  pointwise [fn]

/-- A conjunction of two bits that is one. -/
theorem andi_one : ∀ x y : BitVec 1, IntOp.andi x y = 1#1 → x = 1#1 ∧ y = 1#1 := by decide

/-- Where the precondition is all ones, the channels are channels and the lengths are not too near the greatest word. -/
theorem in_range {F : FTy → Type} [FloatOps F] (a0 : IVec S3 32) (a1 : FVec F S3x1x5120 .bf16) (a2 : IVec S10x16 32) (a3 : IVec S3x10x32768x16 8)
    (a4 : FVec F S3x10x65536 .f32) (h : fn (F := F) a0 a1 a2 a3 a4 = fun _ => 1#1) :
    (∀ (g : Fin 10) (l : Fin 16), (a2 (ix2 g l)).toNat < 128) ∧ ∀ b : Fin 3, (a0 (ix1 b)).toInt ≤ 2147479552 := by
  have key : ∀ b g l, IntOp.andi (IntOp.andi (IntOp.cmpi .sge (a2 (ix2 g l)) 0#32) (IntOp.cmpi .slt (a2 (ix2 g l)) 128#32)) (IntOp.cmpi .sle (a0 (ix1 b)) 2147479552#32) = 1#1 :=
    fun b g l => (fn_apply a0 a1 a2 a3 a4 b g l).symm.trans (congrFun h _)
  refine ⟨fun g l => ?_, fun b => ?_⟩
  · obtain ⟨h1, -⟩ := andi_one _ _ (key 0 g l)
    obtain ⟨h2, h3⟩ := andi_one _ _ h1
    rw [WordCmp.cmpi_sge_eq] at h2
    rw [WordCmp.cmpi_slt_eq] at h3
    generalize a2 (ix2 g l) = w at h2 h3
    have e0 : (0#32 : BitVec 32).toInt = 0 := by decide
    have e1 : (128#32 : BitVec 32).toInt = 128 := by decide
    have p2 : (0#32 : BitVec 32).toInt ≤ w.toInt := by
      by_contra hc
      rw [decide_eq_false hc] at h2
      exact absurd h2 (by decide)
    have p3 : w.toInt < (128#32 : BitVec 32).toInt := by
      by_contra hc
      rw [decide_eq_false hc] at h3
      exact absurd h3 (by decide)
    have := BitVec.toInt_eq_toNat_cond w
    split at this <;> omega
  · obtain ⟨-, h1⟩ := andi_one _ _ (key b 0 0)
    rw [WordCmp.cmpi_sle_eq] at h1
    have e1 : (2147479552#32 : BitVec 32).toInt = 2147479552 := by decide
    by_contra hc
    rw [e1, decide_eq_false hc] at h1
    exact absurd h1 (by decide)

end Cert.ScoresPre
-- ==== Proof.Spec.lean ====
/- What both programs compute, as scalar functions: one new query attends to 4096 selected rows of fp8 codes, each with its
   scale, and to one new row. -/
module

public import proofs.«01_k».proof.Proof.Codes

@[expose] public section

noncomputable section

namespace Cert.Spec

open Idealize.ShloMosaic Cert.Codes

/-- The value of the code that byte `i` of a word is. -/
def code (w : BitVec 32) (i : Nat) : EReal := Ideal.ofBits .fp8e4m3 (byte w i)

/-- The scale of the logits, the float nearest to one over the square root of 128. -/
def scale : EReal := Ideal.ofBits .f32 1035273459#32

/-- Minus infinity, as the programs write it. -/
def low : EReal := Ideal.ofBits .f32 4286578688#32

/-- The logit of selected row `k`: the scales times the product of the query and the row's codes. -/
def cached (q : Fin 128 → EReal) (ks : Fin 4096 → EReal) (kc : Fin 4096 → Fin 128 → EReal) (k : Fin 4096) : EReal :=
  scale * ks k * ∑ d, q d * kc k d

/-- The logit of the new row. -/
def fresh (q kn : Fin 128 → EReal) : EReal := scale * ∑ d, q d * kn d

/-- All the logits of a query, the new row's last. -/
def logit (s : Fin 4096 → EReal) (n : EReal) (k : Fin 4097) : EReal := if h : k.val < 4096 then s ⟨k.val, h⟩ else n

/-- The greatest logit. -/
def top (s : Fin 4096 → EReal) (n : EReal) : EReal := max (Finset.univ.fold max low s) n

/-- The sum of the exponentials. -/
def total (s : Fin 4096 → EReal) (n : EReal) : EReal := ∑ k, Ideal.exp (s k - top s n) + Ideal.exp (n - top s n)

/-- The attention of a query over the selected rows and the new row, at channel `d`. -/
def attend (s : Fin 4096 → EReal) (n : EReal) (vs : Fin 4096 → EReal) (vc : Fin 4096 → Fin 128 → EReal) (vn : Fin 128 → EReal)
    (d : Fin 128) : EReal :=
  ∑ k, Ideal.div (Ideal.exp (s k - top s n)) (total s n) * vs k * vc k d
    + Ideal.div (Ideal.exp (n - top s n)) (total s n) * vn d

/-- Folding the maximum over one index more takes the maximum with the last value. -/
theorem fold_last {n : Nat} (b : EReal) (f : Fin (n + 1) → EReal) :
    Finset.univ.fold max b f = max (Finset.univ.fold max b fun k : Fin n => f k.castSucc) (f (Fin.last n)) := by
  rw [Fin.univ_castSuccEmb, Finset.fold_cons, Finset.fold_map, max_comm]
  rfl

/-- A selected row's logit, its number as one of 4097. -/
theorem logit_castSucc (s : Fin 4096 → EReal) (n : EReal) (k : Fin 4096) : logit s n k.castSucc = s k := by
  unfold logit; rw [dif_pos (by exact k.isLt)]; rfl

/-- The last logit is the new row's. -/
theorem logit_last (s : Fin 4096 → EReal) (n : EReal) : logit s n (Fin.last 4096) = n := by
  unfold logit; rw [dif_neg (by simp)]

/-- The maximum that a softmax over all the logits subtracts is `top`. -/
theorem top_logit (s : Fin 4096 → EReal) (n : EReal) : max low (Finset.univ.fold max low (logit s n)) = top s n := by
  rw [max_eq_right (Finset.le_fold_max low |>.mpr (.inl le_rfl)), fold_last]
  simp only [logit_castSucc, logit_last]
  rfl

/-- The sum over all the logits is the selected rows' sum and the new row's term. -/
theorem total_logit (s : Fin 4096 → EReal) (n : EReal) : ∑ k, Ideal.exp (logit s n k - top s n) = total s n := by
  rw [Fin.sum_univ_castSucc]
  simp only [logit_castSucc, logit_last]
  rfl

/-- `top_logit`, the constant spelt out. -/
theorem top_logit_lit (s : Fin 4096 → EReal) (n : EReal) :
    max (Ideal.ofBits .f32 4286578688#32) (Finset.univ.fold max (Ideal.ofBits .f32 4286578688#32) fun k => logit s n k) = top s n :=
  top_logit s n

/-- `logit_castSucc`, the number spelt out. -/
theorem logit_mk (s : Fin 4096 → EReal) (n : EReal) (k : Fin 4096) (h : k.val < 4097) : logit s n ⟨k.val, h⟩ = s k :=
  logit_castSucc s n k

/-- A selected row's logit, its two numbers equal. -/
theorem logit_of_lt (s : Fin 4096 → EReal) (n : EReal) (k : Fin 4097) (k' : Fin 4096) (hk : k'.val = k.val) : logit s n k = s k' := by
  obtain rfl : k = k'.castSucc := Fin.ext hk.symm
  exact logit_castSucc s n k'

/-- `logit_last`, the number as a numeral. -/
theorem logit_lit (s : Fin 4096 → EReal) (n : EReal) : logit s n 4096 = n := by
  unfold logit; rw [dif_neg (by decide)]

/-! ## The two results, from the programs' arguments -/

/-- A head's query, of the arrays' `3 × 1 × 5120`. -/
def query (x : (⟨3, ![3, 1, 5120]⟩ : Shape).Idx → EReal) (b : Fin 3) (g : Fin 10) (j : Fin 4) (d : Fin 128) : EReal :=
  x (ix3 b 0 ⟨g.val * 512 + j.val * 128 + d.val, by omega⟩)

/-- The new row of a batch's key or value head. -/
def newRow (k : (⟨4, ![3, 1, 10, 128]⟩ : Shape).Idx → EReal) (b : Fin 3) (g : Fin 10) (d : Fin 128) : EReal := k (ix4 b 0 g d)

/-- The selected rows of a batch's key or value head: row `k`, channel `d`. -/
def rows (w : (⟨2, ![30720, 128]⟩ : Shape).Idx → BitVec 32) (b : Fin 3) (g : Fin 10) (k : Fin 4096) (d : Fin 128) : EReal :=
  code (w (ix2 ⟨(b.val * 10 + g.val) * 1024 + k.val / 4, by omega⟩ d)) (k.val % 4)

/-- The scales of a batch's head. -/
def scales (s : (⟨3, ![30, 1, 4096]⟩ : Shape).Idx → EReal) (b : Fin 3) (g : Fin 10) (k : Fin 4096) : EReal :=
  s (ix3 ⟨b.val * 10 + g.val, by omega⟩ 0 k)

variable (x : (⟨3, ![3, 1, 5120]⟩ : Shape).Idx → EReal) (kn vn : (⟨4, ![3, 1, 10, 128]⟩ : Shape).Idx → EReal)
  (kw vw : (⟨2, ![30720, 128]⟩ : Shape).Idx → BitVec 32) (ks vs : (⟨3, ![30, 1, 4096]⟩ : Shape).Idx → EReal)

/-- The logits of the selected rows. -/
def headCached (b : Fin 3) (g : Fin 10) (j : Fin 4) : Fin 4096 → EReal := cached (query x b g j) (scales ks b g) (rows kw b g)

/-- The logit of the new row. -/
def headFresh (b : Fin 3) (g : Fin 10) (j : Fin 4) : EReal := fresh (query x b g j) (newRow kn b g)

/-- The result: the attention. -/
def out (i : (⟨4, ![3, 10, 4, 128]⟩ : Shape).Idx) : EReal :=
  attend (headCached x kw ks (i 0) (i 1) (i 2)) (headFresh x kn (i 0) (i 1) (i 2)) (scales vs (i 0) (i 1)) (rows vw (i 0) (i 1))
    (newRow vn (i 0) (i 1)) (i 3)

/-- The result: the logits. -/
def logits (i : (⟨4, ![3, 10, 4, 4097]⟩ : Shape).Idx) : EReal :=
  logit (headCached x kw ks (i 0) (i 1) (i 2)) (headFresh x kn (i 0) (i 1) (i 2)) (i 3)

end Cert.Spec
-- ==== Proof.KernelBlock.lean ====
/- The kernel's body at a grid point, read at an index. -/
module

public import proofs.«01_k».proof.Proof.Gen.AttendIdeal.Skeleton
public import proofs.«01_k».proof.Proof.Spec

@[expose] public section

set_option maxRecDepth 16384

noncomputable section

namespace Cert.KernelBlock

open Idealize.ShloMosaic Cert.AttendIdeal Cert.AttendIdeal.Gen Cert.Spec Cert.Codes

/-- A block's words as rows of code values. -/
def blockRows (w : Vec Ideal S1024x128 .i32) (k : Fin 4096) (d : Fin 128) : EReal :=
  code (w (ix2 ⟨k.val / 4, by omega⟩ d)) (k.val % 4)

/-- The block's words reinterpreted as 8-bit floats. -/
theorem codes_apply (w : Vec Ideal S1024x128 .i32) (k : Fin 4096) (d : Fin 128) :
    Ideal.ofBits .fp8e4m3 (bitcast S4096x128 8 w bitcasts_S1024x128_w32_S4096x128_w8 (ix2 k d)) = blockRows w k d := by
  unfold blockRows code
  exact congrArg _ (bitcast_byte w bitcasts_S1024x128_w32_S4096x128_w8 k d ⟨k.val / 4, by omega⟩ rfl)

/-- The logits of the selected rows. -/
theorem pay3_apply (x : Vec Ideal S1x1x4x128 .bf16) (w : Vec Ideal S1024x128 .i32) (s : Vec Ideal S1x1x4096 .f32) (j : Fin 4)
    (k : Fin 4096) : k0_pay3 (F := Ideal) x w s (ix2 j k)
      = cached (fun d => x (ix4 0 0 j d)) (fun k => s (ix3 0 0 k)) (blockRows w) k := by
  pointwise [k0_pay3, k0_pay2]
  simp only [codes_apply]
  rfl

/-- The logit of the new row. -/
theorem pay4_apply (x : Vec Ideal S1x1x4x128 .bf16) (w : Vec Ideal S1x1x1x128 .bf16) (j : Fin 4) :
    k0_pay4 (F := Ideal) x w (ix2 j 0) = fresh (fun d => x (ix4 0 0 j d)) (fun d => w (ix4 0 0 0 d)) := by
  pointwise [k0_pay4, k0_pay2]
  rfl

/-- The greatest logit of the selected rows. -/
theorem pay7_apply (x : Vec Ideal S1x1x4x128 .bf16) (w : Vec Ideal S1024x128 .i32) (s : Vec Ideal S1x1x4096 .f32) (j : Fin 4) :
    k0_pay7 (F := Ideal) x w s (ix2 j 0) = Finset.univ.fold max low
      (cached (fun d => x (ix4 0 0 j d)) (fun k => s (ix3 0 0 k)) (blockRows w)) := by
  pointwise [k0_pay7]
  simp only [pay3_apply]
  rfl

/-- The block of the attention that the body stores. -/
theorem pay1_apply (x : Vec Ideal S1x1x4x128 .bf16) (kn vn : Vec Ideal S1x1x1x128 .bf16) (kw vw : Vec Ideal S1024x128 .i32)
    (ks vs : Vec Ideal S1x1x4096 .f32) (j : Fin 4) (d : Fin 128) :
    k0_pay1 (F := Ideal) (k0_pay3 x kw ks) (k0_pay4 x kn) (k0_pay7 x kw ks) vs vw vn (ix4 0 0 j d)
      = attend (cached (fun d => x (ix4 0 0 j d)) (fun k => ks (ix3 0 0 k)) (blockRows kw))
          (fresh (fun d => x (ix4 0 0 j d)) (fun d => kn (ix4 0 0 0 d))) (fun k => vs (ix3 0 0 k)) (blockRows vw)
          (fun d => vn (ix4 0 0 0 d)) d := by
  pointwise [k0_pay1]
  simp only [pay3_apply, pay4_apply, pay7_apply, codes_apply]
  rfl

end Cert.KernelBlock
-- ==== Proof.KernelArray.lean ====
/- The kernel's two result arrays after the run, read at an index. -/
module

public import proofs.«01_k».proof.Proof.Gen.AttendIdeal.Frame
public import proofs.«01_k».proof.Proof.KernelBlock
public import Idealize.ShloMosaic.Lib.Pipeline.ValueKit

@[expose] public section

set_option maxRecDepth 16384

noncomputable section

namespace Cert.KernelArray

open Idealize.ShloMosaic Idealize.ShloMosaic.TcCoe Idealize.SL.Sem Cert.AttendIdeal Cert.AttendIdeal.Gen Cert.Spec Cert.Codes Cert.KernelBlock
open Idealize.ShloMosaic.Pipeline (Dat)

variable (m : (ℓ : Loc nD τ sig) → Buf (Elt Ideal) ℓ)

/-- Every window's block index at every grid point: the batch and the head, or their place in row-major order. -/
theorem idx : ∀ t : Fin cfg0.N,
    win0_0.index t = ![(grid0.coords t 0).val, (grid0.coords t 1).val, 0, 0]
    ∧ win0_1.index t = ![(grid0.coords t 0).val, (grid0.coords t 1).val, 0, 0]
    ∧ win0_2.index t = ![(grid0.coords t 0).val, (grid0.coords t 1).val, 0, 0]
    ∧ win0_3.index t = ![(grid0.coords t 0).val * 10 + (grid0.coords t 1).val, 0]
    ∧ win0_4.index t = ![(grid0.coords t 0).val * 10 + (grid0.coords t 1).val, 0, 0]
    ∧ win0_5.index t = ![(grid0.coords t 0).val * 10 + (grid0.coords t 1).val, 0]
    ∧ win0_6.index t = ![(grid0.coords t 0).val * 10 + (grid0.coords t 1).val, 0, 0]
    ∧ win0_7.index t = ![(grid0.coords t 0).val, (grid0.coords t 1).val, 0, 0]
    ∧ win0_8.index t = ![(grid0.coords t 0).val, (grid0.coords t 1).val, 0, 0] :=
  (by decide +kernel : ∀ t : Fin grid0.N, _)

/-- A grid point's batch. -/
def batch (t : Fin cfg0.N) : Fin 3 := grid0.coords t 0

/-- A grid point's head. -/
def head (t : Fin cfg0.N) : Fin 10 := grid0.coords t 1

/-- The query block. -/
theorem block0 (c : Dev nD) (t : Fin cfg0.N) (j : Fin 4) (d : Fin 128) :
    iblk m c 0 t (ix4 0 0 j d) = query (m ((c : Thread nD τ).loc main_arg0)) (batch t) (head t) j d := by
  unfold query batch head
  blk_ext! [iblk, V, idx t]

/-- Point `t`'s new-key block is its batch's and head's new key. -/
theorem block1 (c : Dev nD) (t : Fin cfg0.N) (d : Fin 128) :
    iblk m c 1 t (ix4 0 0 0 d) = newRow (m ((c : Thread nD τ).loc main_arg1)) (batch t) (head t) d := by
  unfold newRow batch head
  blk_ext! [iblk, V, idx t]

/-- Point `t`'s new-value block is its batch's and head's new value. -/
theorem block2 (c : Dev nD) (t : Fin cfg0.N) (d : Fin 128) :
    iblk m c 2 t (ix4 0 0 0 d) = newRow (m ((c : Thread nD τ).loc main_arg2)) (batch t) (head t) d := by
  unfold newRow batch head
  blk_ext! [iblk, V, idx t]

/-- Point `t`'s key-word block decodes to its batch's and head's key rows. -/
theorem block3 (c : Dev nD) (t : Fin cfg0.N) (k : Fin 4096) (d : Fin 128) :
    blockRows (iblk m c 3 t) k d = rows (m ((c : Thread nD τ).loc main_arg3)) (batch t) (head t) k d := by
  unfold blockRows rows batch head
  refine congrArg (code · (k.val % 4)) ?_
  blk_ext! [iblk, V, idx t]

/-- Point `t`'s value-word block decodes to its batch's and head's value rows. -/
theorem block5 (c : Dev nD) (t : Fin cfg0.N) (k : Fin 4096) (d : Fin 128) :
    blockRows (iblk m c 5 t) k d = rows (m ((c : Thread nD τ).loc main_arg5)) (batch t) (head t) k d := by
  unfold blockRows rows batch head
  refine congrArg (code · (k.val % 4)) ?_
  blk_ext! [iblk, V, idx t]

/-- Point `t`'s key-scale block is its batch's and head's key scales. -/
theorem block4 (c : Dev nD) (t : Fin cfg0.N) (k : Fin 4096) :
    iblk m c 4 t (ix3 0 0 k) = scales (m ((c : Thread nD τ).loc main_arg4)) (batch t) (head t) k := by
  unfold scales batch head
  blk_ext! [iblk, V, idx t]

/-- Point `t`'s value-scale block is its batch's and head's value scales. -/
theorem block6 (c : Dev nD) (t : Fin cfg0.N) (k : Fin 4096) :
    iblk m c 6 t (ix3 0 0 k) = scales (m ((c : Thread nD τ).loc main_arg6)) (batch t) (head t) k := by
  unfold scales batch head
  blk_ext! [iblk, V, idx t]

/-- Where a block of the attention lies in its array. -/
theorem place7 (t : Fin cfg0.N) (j : Fin 4) (d : Fin 128) :
    (((View.whole main_v3_0).slice (win0_7.rect t)).emb (ix4 0 0 j d)) = ix4 (batch t) (head t) j d := by
  unfold batch head
  blk_ext [idx t]

/-- Where a block of the logits lies in its array. -/
theorem place8 (t : Fin cfg0.N) (j : Fin 4) (k : Fin 4097) :
    (((View.whole main_v3_1).slice (win0_8.rect t)).emb (ix4 0 0 j k)) = ix4 (batch t) (head t) j k := by
  unfold batch head
  blk_ext [idx t]

/-- The attention that a grid point stores. -/
theorem point7 (c : Dev nD) (t : Fin cfg0.N) (j : Fin 4) (d : Fin 128) :
    k0_pay1 (k0_pay3 (iblk m c 0 t) (iblk m c 3 t) (iblk m c 4 t)) (k0_pay4 (iblk m c 0 t) (iblk m c 1 t))
      (k0_pay7 (iblk m c 0 t) (iblk m c 3 t) (iblk m c 4 t)) (iblk m c 6 t) (iblk m c 5 t) (iblk m c 2 t) (ix4 0 0 j d)
    = out (m ((c : Thread nD τ).loc main_arg0)) (m ((c : Thread nD τ).loc main_arg1)) (m ((c : Thread nD τ).loc main_arg2))
        (m ((c : Thread nD τ).loc main_arg3)) (m ((c : Thread nD τ).loc main_arg5)) (m ((c : Thread nD τ).loc main_arg4))
        (m ((c : Thread nD τ).loc main_arg6)) (ix4 (batch t) (head t) j d) := by
  refine (pay1_apply _ _ _ _ _ _ _ j d).trans ?_
  rw [funext (block0 m c t j), funext (block1 m c t), funext (block2 m c t), funext (block4 m c t), funext (block6 m c t),
    funext fun k => funext (block3 m c t k), funext fun k => funext (block5 m c t k)]
  rfl

/-- The logits of the selected rows that a grid point stores. -/
theorem point8_cached (c : Dev nD) (t : Fin cfg0.N) (j : Fin 4) (k : Fin 4096) :
    k0_pay3 (iblk m c 0 t) (iblk m c 3 t) (iblk m c 4 t) (ix2 j k)
    = headCached (m ((c : Thread nD τ).loc main_arg0)) (m ((c : Thread nD τ).loc main_arg3)) (m ((c : Thread nD τ).loc main_arg4))
        (batch t) (head t) j k := by
  refine (pay3_apply _ _ _ j k).trans ?_
  rw [funext (block0 m c t j), funext (block4 m c t), funext fun k => funext (block3 m c t k)]
  rfl

/-- The logit of the new row that a grid point stores. -/
theorem point8_fresh (c : Dev nD) (t : Fin cfg0.N) (j : Fin 4) :
    k0_pay4 (iblk m c 0 t) (iblk m c 1 t) (ix2 j 0)
    = headFresh (m ((c : Thread nD τ).loc main_arg0)) (m ((c : Thread nD τ).loc main_arg1)) (batch t) (head t) j := by
  refine (pay4_apply _ _ j).trans ?_
  rw [funext (block0 m c t j), funext (block1 m c t)]
  rfl

/-- The attention array after the run. -/
theorem final7 (c : Dev nD) : (dats m 0 c).arrAt 7 (cfgs 0).N
    = out (m ((c : Thread nD τ).loc main_arg0)) (m ((c : Thread nD τ).loc main_arg1)) (m ((c : Thread nD τ).loc main_arg2))
        (m ((c : Thread nD τ).loc main_arg3)) (m ((c : Thread nD τ).loc main_arg5)) (m ((c : Thread nD τ).loc main_arg4))
        (m ((c : Thread nD τ).loc main_arg6)) := by
  refine (dats m 0 c).arrAt_eq_of_covers 7 _ (by decide +kernel) fun t hf y => ?_
  blk_simp
  rw [after0_7]
  unfold outsAt0
  frame_out
  obtain ⟨j, d, rfl⟩ : ∃ (j : Fin 4) (d : Fin 128), y = ix4 0 0 j d :=
    ⟨y 2, y 3, (eq_ix4 y).trans (by congr 1 <;> exact Subsingleton.elim (α := Fin 1) _ _)⟩
  exact (point7 m c t j d).trans (congrArg _ (place7 t j d)).symm

/-- The logits array after the run. -/
theorem final8 (c : Dev nD) : (dats m 0 c).arrAt 8 (cfgs 0).N
    = logits (m ((c : Thread nD τ).loc main_arg0)) (m ((c : Thread nD τ).loc main_arg1))
        (m ((c : Thread nD τ).loc main_arg3)) (m ((c : Thread nD τ).loc main_arg4)) := by
  refine (dats m 0 c).arrAt_eq_of_covers 8 _ (by decide +kernel) fun t hf y => ?_
  blk_simp
  rw [after0_8]
  unfold outsAt0
  frame_out
  obtain ⟨j, k, rfl⟩ : ∃ (j : Fin 4) (k : Fin 4097), y = ix4 0 0 j k :=
    ⟨y 2, y 3, (eq_ix4 y).trans (by congr 1 <;> exact Subsingleton.elim (α := Fin 1) _ _)⟩
  refine Eq.trans ?_ (congrArg _ (place8 t j k)).symm
  canon_tiles x h using (View.cover_of_tiledBy _ ![1, 1, 4, 1] (by sl_kernel_rfl) _)
  · change k.val = 4096 + (x 3).val at h3
    change j.val = (x 2).val at h2
    obtain rfl : x = ix4 0 0 j 0 := by
      refine (eq_ix4 x).trans ?_
      congr 1 <;> apply Fin.ext <;> simp <;> omega
    refine Eq.trans ?_ ((point8_fresh m c t j).trans ?_)
    · pointwise [k0_pay6]
    · unfold logits logit
      rw [dif_neg (by show ¬ k.val < 4096; omega)]
      rfl
  · change k.val = (x 3).val at h3
    change j.val = (x 2).val at h2
    obtain ⟨k', hk, rfl⟩ : ∃ k' : Fin 4096, k'.val = k.val ∧ x = ix4 0 0 j k' := by
      refine ⟨x 3, h3.symm, (eq_ix4 x).trans ?_⟩
      congr 1 <;> apply Fin.ext <;> simp <;> omega
    refine Eq.trans ?_ ((point8_cached m c t j k').trans ?_)
    · pointwise [k0_pay5]
    · exact (logit_of_lt _ _ k k' hk).symm

end Cert.KernelArray
-- ==== Proof.ReferenceBlock.lean ====
/- The reference's body, read at an index. -/
module

public import proofs.«01_k».proof.Proof.Gen.AttendReferenceIdeal.Skeleton
public import proofs.«01_k».proof.Proof.Spec

@[expose] public section

set_option maxRecDepth 16384

noncomputable section

namespace Cert.ReferenceBlock

open Idealize.ShloMosaic Cert.AttendReferenceIdeal Cert.AttendReferenceIdeal.Gen Cert.Spec Cert.Codes

/-- The rows of code values of a batch's head, from the whole array of words. -/
def headRows (w : Vec Ideal S30720x128 .i32) (p : Fin 30) (k : Fin 4096) (d : Fin 128) : EReal :=
  code (w (ix2 ⟨(p.val * 4096 + k.val) / 4, by omega⟩ d)) ((p.val * 4096 + k.val) % 4)

/-- A word's byte `q % 4`, as the reference takes it out of the word. -/
theorem code_apply (w : BitVec 32) (q : Nat) :
    Ideal.ofBits .fp8e4m3 (BitVec.setWidth 8 (IntOp.andi (IntOp.shrui .vector w (IntOp.muli 8#32 (BitVec.ofNat 32 (q % 4)))) 255#32))
      = code w (q % 4) :=
  congrArg _ (shift_byte w ⟨q % 4, Nat.mod_lt _ (by decide)⟩)

/-- The decoded values of a head. -/
theorem pay5_apply (w : Vec Ideal S30720x128 .i32) (p : Fin 30) (k : Fin 4096) (d : Fin 128) :
    k0_pay5 (F := Ideal) w (ix3 p k d) = headRows w p k d := by
  pointwise [k0_pay5]
  exact code_apply _ _

/-- The logits of the selected rows. -/
theorem pay6_apply (x : Vec Ideal S30x4x128 .bf16) (w : Vec Ideal S30720x128 .i32) (s : Vec Ideal S30x1x4096 .f32) (p : Fin 30)
    (j : Fin 4) (k : Fin 4096) : k0_pay6 (F := Ideal) x w s (ix3 p j k)
      = cached (fun d => x (ix3 p j d)) (fun k => s (ix3 p 0 k)) (headRows w p) k := by
  pointwise [k0_pay6, k0_pay4]
  simp only [code_apply]
  rfl

/-- All the logits of a head. -/
theorem pay1_apply (x : Vec Ideal S30x4x128 .bf16) (kn : Vec Ideal S30x1x128 .bf16) (w : Vec Ideal S30720x128 .i32)
    (s : Vec Ideal S30x1x4096 .f32) (p : Fin 30) (j : Fin 4) (k : Fin 4097) :
    k0_pay1 (F := Ideal) (k0_pay6 x w s) (k0_pay7 x kn) (ix3 p j k)
      = logit (cached (fun d => x (ix3 p j d)) (fun k => s (ix3 p 0 k)) (headRows w p))
          (fresh (fun d => x (ix3 p j d)) (fun d => kn (ix3 p 0 d))) k := by
  have n0 : k0_pay7 (F := Ideal) x kn (ix3 p j 0) = ∑ d, x (ix3 p j d) * kn (ix3 p 0 d) := by
    pointwise [k0_pay7, k0_pay4]
  pointwise [k0_pay1]
  unfold logit fresh scale
  split
  · rw [pay6_apply]
  · have e (h : k.val - 4096 < 1) : (⟨k.val - 4096, h⟩ : Fin 1) = 0 := Subsingleton.elim _ _
    rw [e, n0]

/-- The logits that the body stores. -/
theorem pay2_apply (x : Vec Ideal S30x4x128 .bf16) (kn : Vec Ideal S30x1x128 .bf16) (w : Vec Ideal S30720x128 .i32)
    (s : Vec Ideal S30x1x4096 .f32) (b : Fin 3) (g : Fin 10) (j : Fin 4) (k : Fin 4097) (p : Fin 30) (hp : p.val = b.val * 10 + g.val) :
    k0_pay2 (F := Ideal) (k0_pay6 x w s) (k0_pay7 x kn) (ix4 b g j k)
      = logit (cached (fun d => x (ix3 p j d)) (fun k => s (ix3 p 0 k)) (headRows w p))
          (fresh (fun d => x (ix3 p j d)) (fun d => kn (ix3 p 0 d))) k := by
  have hb : b.val * 10 + g.val < 30 := hp ▸ p.isLt
  obtain rfl : p = ⟨b.val * 10 + g.val, hb⟩ := Fin.ext hp
  clear hp
  pointwise [k0_pay2]
  simp only [pay1_apply]

set_option maxHeartbeats 400000 in
/-- The attention that the body stores. -/
theorem pay3_apply (x : Vec Ideal S30x4x128 .bf16) (kn vn : Vec Ideal S30x1x128 .bf16) (kw vw : Vec Ideal S30720x128 .i32)
    (ks vs : Vec Ideal S30x1x4096 .f32) (b : Fin 3) (g : Fin 10) (j : Fin 4) (d : Fin 128) (p : Fin 30)
    (hp : p.val = b.val * 10 + g.val) :
    k0_pay3 (F := Ideal) (k0_pay5 vw) (k0_pay6 x kw ks) (k0_pay7 x kn) vs vn (ix4 b g j d)
      = attend (cached (fun d => x (ix3 p j d)) (fun k => ks (ix3 p 0 k)) (headRows kw p))
          (fresh (fun d => x (ix3 p j d)) (fun d => kn (ix3 p 0 d))) (fun k => vs (ix3 p 0 k)) (headRows vw p)
          (fun d => vn (ix3 p 0 d)) d := by
  have hb : b.val * 10 + g.val < 30 := hp ▸ p.isLt
  obtain rfl : p = ⟨b.val * 10 + g.val, hb⟩ := Fin.ext hp
  clear hp
  pointwise [k0_pay3]
  simp only [pay1_apply, pay5_apply]
  simp only [top_logit_lit]
  simp only [total_logit, logit_mk, logit_lit]
  unfold attend
  refine congrArg₂ (· + ·) rfl ?_
  exact Fin.sum_univ_one _

end Cert.ReferenceBlock
-- ==== Proof.ReferenceArray.lean ====
/- The reference's two result arrays after the run, read at an index. -/
module

public import proofs.«01_k».proof.Proof.Gen.AttendReferenceIdeal.Frame
public import proofs.«01_k».proof.Proof.ReferenceBlock
public import Idealize.ShloMosaic.Lib.Pipeline.ValueKit

@[expose] public section

set_option maxRecDepth 16384

noncomputable section

namespace Cert.ReferenceArray

open Idealize.ShloMosaic Idealize.ShloMosaic.TcCoe Idealize.SL.Sem Cert.AttendReferenceIdeal Cert.AttendReferenceIdeal.Gen Cert.Spec
  Cert.Codes Cert.ReferenceBlock
open Idealize.ShloMosaic.Pipeline (Dat)

variable (m : (ℓ : Loc nD τ sig) → Buf (Elt Ideal) ℓ)

/-- Every window is its whole array. -/
theorem idx : ∀ t : Fin cfg0.N,
    win0_0.index t = ![0, 0, 0] ∧ win0_1.index t = ![0, 0, 0] ∧ win0_2.index t = ![0, 0, 0] ∧ win0_3.index t = ![0, 0]
    ∧ win0_4.index t = ![0, 0, 0] ∧ win0_5.index t = ![0, 0] ∧ win0_6.index t = ![0, 0, 0] ∧ win0_7.index t = ![0, 0, 0, 0]
    ∧ win0_8.index t = ![0, 0, 0, 0] :=
  (by decide +kernel : ∀ t : Fin grid0.N, _)

/-- A batch's head in row-major order. -/
def pair (b : Fin 3) (g : Fin 10) : Fin 30 := ⟨b.val * 10 + g.val, by omega⟩

/-- The query window is the query argument, split into heads. -/
theorem block0 (c : Dev nD) (t : Fin cfg0.N) (b : Fin 3) (g : Fin 10) (j : Fin 4) (d : Fin 128) :
    iblk m c 0 t (ix3 (pair b g) j d) = query (m ((c : Thread nD τ).loc main_arg0)) b g j d := by
  unfold query pair
  blk_ext! [iblk, V, idx t]

/-- The new-key window is the new-key argument, one row per pair. -/
theorem block1 (c : Dev nD) (t : Fin cfg0.N) (b : Fin 3) (g : Fin 10) (d : Fin 128) :
    iblk m c 1 t (ix3 (pair b g) 0 d) = newRow (m ((c : Thread nD τ).loc main_arg1)) b g d := by
  unfold newRow pair
  blk_ext! [iblk, V, idx t]

/-- The new-value window is the new-value argument, one row per pair. -/
theorem block2 (c : Dev nD) (t : Fin cfg0.N) (b : Fin 3) (g : Fin 10) (d : Fin 128) :
    iblk m c 2 t (ix3 (pair b g) 0 d) = newRow (m ((c : Thread nD τ).loc main_arg2)) b g d := by
  unfold newRow pair
  blk_ext! [iblk, V, idx t]

/-- A pair's decoded rows are the specification's rows of its batch and head. -/
theorem headRows_eq (w : Vec Ideal S30720x128 .i32) (b : Fin 3) (g : Fin 10) (k : Fin 4096) (d : Fin 128) :
    headRows w (pair b g) k d = rows w b g k d := by
  unfold headRows rows pair
  have e1 : ((b.val * 10 + g.val) * 4096 + k.val) / 4 = (b.val * 10 + g.val) * 1024 + k.val / 4 := by omega
  have e2 : ((b.val * 10 + g.val) * 4096 + k.val) % 4 = k.val % 4 := by omega
  simp only [e1, e2]

/-- The key-word window is the key-word argument. -/
theorem block3 (c : Dev nD) (t : Fin cfg0.N) : iblk m c 3 t = m ((c : Thread nD τ).loc main_arg3) := by
  blk_ext! [iblk, V, idx t]

/-- The value-word window is the value-word argument. -/
theorem block5 (c : Dev nD) (t : Fin cfg0.N) : iblk m c 5 t = m ((c : Thread nD τ).loc main_arg5) := by
  blk_ext! [iblk, V, idx t]

/-- The key-scale window is the key-scale argument. -/
theorem block4 (c : Dev nD) (t : Fin cfg0.N) (b : Fin 3) (g : Fin 10) (k : Fin 4096) :
    iblk m c 4 t (ix3 (pair b g) 0 k) = scales (m ((c : Thread nD τ).loc main_arg4)) b g k := by
  unfold scales pair
  blk_ext! [iblk, V, idx t]

/-- The value-scale window is the value-scale argument. -/
theorem block6 (c : Dev nD) (t : Fin cfg0.N) (b : Fin 3) (g : Fin 10) (k : Fin 4096) :
    iblk m c 6 t (ix3 (pair b g) 0 k) = scales (m ((c : Thread nD τ).loc main_arg6)) b g k := by
  unfold scales pair
  blk_ext! [iblk, V, idx t]

/-- The attention that the body stores. -/
theorem point7 (c : Dev nD) (t : Fin cfg0.N) (b : Fin 3) (g : Fin 10) (j : Fin 4) (d : Fin 128) :
    k0_pay3 (k0_pay5 (iblk m c 5 t)) (k0_pay6 (iblk m c 0 t) (iblk m c 3 t) (iblk m c 4 t)) (k0_pay7 (iblk m c 0 t) (iblk m c 1 t))
      (iblk m c 6 t) (iblk m c 2 t) (ix4 b g j d)
    = out (m ((c : Thread nD τ).loc main_arg0)) (m ((c : Thread nD τ).loc main_arg1)) (m ((c : Thread nD τ).loc main_arg2))
        (m ((c : Thread nD τ).loc main_arg3)) (m ((c : Thread nD τ).loc main_arg5)) (m ((c : Thread nD τ).loc main_arg4))
        (m ((c : Thread nD τ).loc main_arg6)) (ix4 b g j d) := by
  refine (pay3_apply _ _ _ _ _ _ _ b g j d (pair b g) rfl).trans ?_
  rw [funext (block0 m c t b g j), funext (block1 m c t b g), funext (block2 m c t b g), funext (block4 m c t b g),
    funext (block6 m c t b g), block3, block5, funext fun k => funext (headRows_eq (m ((c : Thread nD τ).loc main_arg3)) b g k),
    funext fun k => funext (headRows_eq (m ((c : Thread nD τ).loc main_arg5)) b g k)]
  rfl

/-- The logits that the body stores. -/
theorem point8 (c : Dev nD) (t : Fin cfg0.N) (b : Fin 3) (g : Fin 10) (j : Fin 4) (k : Fin 4097) :
    k0_pay2 (k0_pay6 (iblk m c 0 t) (iblk m c 3 t) (iblk m c 4 t)) (k0_pay7 (iblk m c 0 t) (iblk m c 1 t)) (ix4 b g j k)
    = logits (m ((c : Thread nD τ).loc main_arg0)) (m ((c : Thread nD τ).loc main_arg1)) (m ((c : Thread nD τ).loc main_arg3))
        (m ((c : Thread nD τ).loc main_arg4)) (ix4 b g j k) := by
  refine (pay2_apply _ _ _ _ b g j k (pair b g) rfl).trans ?_
  rw [funext (block0 m c t b g j), funext (block1 m c t b g), funext (block4 m c t b g), block3,
    funext fun k => funext (headRows_eq (m ((c : Thread nD τ).loc main_arg3)) b g k)]
  rfl

/-- The attention array after the run. -/
theorem final7 (c : Dev nD) : (dats m 0 c).arrAt 7 (cfgs 0).N
    = out (m ((c : Thread nD τ).loc main_arg0)) (m ((c : Thread nD τ).loc main_arg1)) (m ((c : Thread nD τ).loc main_arg2))
        (m ((c : Thread nD τ).loc main_arg3)) (m ((c : Thread nD τ).loc main_arg5)) (m ((c : Thread nD τ).loc main_arg4))
        (m ((c : Thread nD τ).loc main_arg6)) := by
  refine (dats m 0 c).arrAt_eq_of_after_last 7 t0_0 (by decide +kernel) _ fun j => ?_
  blk_simp
  rw [after0_7]
  unfold_out out0_7
  frame_out
  obtain ⟨b, g, h, d, rfl⟩ : ∃ (b : Fin 3) (g : Fin 10) (h : Fin 4) (d : Fin 128), j = ix4 b g h d := ⟨j 0, j 1, j 2, j 3, eq_ix4 j⟩
  exact point7 m c t0_0 b g h d

/-- The logits array after the run. -/
theorem final8 (c : Dev nD) : (dats m 0 c).arrAt 8 (cfgs 0).N
    = logits (m ((c : Thread nD τ).loc main_arg0)) (m ((c : Thread nD τ).loc main_arg1))
        (m ((c : Thread nD τ).loc main_arg3)) (m ((c : Thread nD τ).loc main_arg4)) := by
  refine (dats m 0 c).arrAt_eq_of_after_last 8 t0_0 (by decide +kernel) _ fun j => ?_
  blk_simp
  rw [after0_8]
  unfold_out out0_8
  frame_out
  obtain ⟨b, g, h, k, rfl⟩ : ∃ (b : Fin 3) (g : Fin 10) (h : Fin 4) (k : Fin 4097), j = ix4 b g h k := ⟨j 0, j 1, j 2, j 3, eq_ix4 j⟩
  exact point8 m c t0_0 b g h k

end Cert.ReferenceArray
-- ==== Proof.lean ====
module

public import proofs.«01_k».proof.Defs
public import proofs.«01_k».proof.Proof.Gen.Attend
public import proofs.«01_k».proof.Proof.Gen.Attend.Skeleton
public import proofs.«01_k».proof.Proof.Gen.Attend.Launch
public import proofs.«01_k».proof.Proof.Gen.Attend.Points
public import proofs.«01_k».proof.Proof.Gen.Attend.Frame
public import proofs.«01_k».proof.Proof.Gen.AttendIdeal
public import proofs.«01_k».proof.Proof.Gen.AttendIdeal.Skeleton
public import proofs.«01_k».proof.Proof.Gen.AttendIdeal.Launch
public import proofs.«01_k».proof.Proof.Gen.AttendIdeal.Points
public import proofs.«01_k».proof.Proof.Gen.AttendIdeal.Frame
public import proofs.«01_k».proof.Proof.Gen.AttendReferenceIdeal
public import proofs.«01_k».proof.Proof.Gen.AttendReferenceIdeal.Skeleton
public import proofs.«01_k».proof.Proof.Gen.AttendReferenceIdeal.Launch
public import proofs.«01_k».proof.Proof.Gen.AttendReferenceIdeal.Points
public import proofs.«01_k».proof.Proof.Gen.AttendReferenceIdeal.Frame
public import proofs.«01_k».proof.Proof.Gen.AttendIdeal.Value
public import proofs.«01_k».proof.Proof.ReferenceRun
public import proofs.«01_k».proof.Proof.Gen.Scores
public import proofs.«01_k».proof.Proof.Gen.Scores.Launch
public import proofs.«01_k».proof.Proof.Gen.Scores.Skeleton
public import proofs.«01_k».proof.Proof.Gen.ScoresIdeal
public import proofs.«01_k».proof.Proof.Gen.ScoresIdeal.Launch
public import proofs.«01_k».proof.Proof.Gen.ScoresIdeal.Skeleton
public import proofs.«01_k».proof.Proof.Gen.ScoresReferenceIdeal
public import proofs.«01_k».proof.Proof.Gen.ScoresReferenceIdeal.Run
public import proofs.«01_k».proof.Proof.Gen.Pre_scores_in_range
public import proofs.«01_k».proof.Proof.ScoresTable
public import proofs.«01_k».proof.Proof.ScoresIdealRun
public import proofs.«01_k».proof.Proof.ScoresIdealValue
public import proofs.«01_k».proof.Proof.ScoresReferenceValue
public import proofs.«01_k».proof.Proof.ScoresPre
public import proofs.«01_k».proof.Proof.KernelArray
public import proofs.«01_k».proof.Proof.ReferenceArray
public import Idealize.ShloMosaic.Lib.Quiescent
public import Idealize.ShloMosaic.Adequacy
public import Idealize.ShloMosaic.Init

@[expose] public section

noncomputable section

namespace Cert.Proof

open Idealize.ShloMosaic Idealize.SL.Sem Cert.Attend

/-- Both programs leave the attention and the logits of `Cert.Spec`, from equal arguments. -/
theorem algebraic : Cert.algebraic_AttendIdeal_AttendReferenceIdeal (hAttendIdeal := Cert.AttendIdeal.Gen.facts)
    (hAttendReferenceIdeal := Cert.AttendReferenceIdeal.Gen.facts) := by
  intro m g m' g' _ hargs
  refine ⟨fun c => Cert.Spec.out (m ((c.tc : Thread _ _).loc Cert.AttendIdeal.main_arg0)) (m ((c.tc : Thread _ _).loc Cert.AttendIdeal.main_arg1))
      (m ((c.tc : Thread _ _).loc Cert.AttendIdeal.main_arg2)) (m ((c.tc : Thread _ _).loc Cert.AttendIdeal.main_arg3))
      (m ((c.tc : Thread _ _).loc Cert.AttendIdeal.main_arg5)) (m ((c.tc : Thread _ _).loc Cert.AttendIdeal.main_arg4))
      (m ((c.tc : Thread _ _).loc Cert.AttendIdeal.main_arg6)),
    fun c => Cert.Spec.logits (m ((c.tc : Thread _ _).loc Cert.AttendIdeal.main_arg0)) (m ((c.tc : Thread _ _).loc Cert.AttendIdeal.main_arg1))
      (m ((c.tc : Thread _ _).loc Cert.AttendIdeal.main_arg3)) (m ((c.tc : Thread _ _).loc Cert.AttendIdeal.main_arg4)), ?_, ?_⟩
  · refine (θ_run (Cert.AttendIdeal.defs (F := Ideal)) _ _).mono (fun r h c => ?_) (Cert.AttendIdeal.Value.run_blocks (F := Ideal) m g)
    obtain ⟨h7, h8, hk⟩ := h c
    exact ⟨h7.trans (Cert.KernelArray.final7 m c), h8.trans (Cert.KernelArray.final8 m c), hk⟩
  · refine (θ_run (Cert.AttendReferenceIdeal.defs (F := Ideal)) _ _).mono (fun r h c => ?_)
      (Cert.ReferenceRun.run_blocks (F := Ideal) m' g')
    obtain ⟨h7, h8, hk⟩ := h c
    obtain ⟨a0, a1, a2, a3, a4, a5, a6⟩ := hargs c
    refine ⟨(h7.trans (Cert.ReferenceArray.final7 m' c)).trans ?_, (h8.trans (Cert.ReferenceArray.final8 m' c)).trans ?_, hk⟩
    · rw [a0, a1, a2, a3, a4, a5, a6]
    · rw [a0, a1, a3, a4]

/-- Both programs leave the scores of `Cert.ScoresSpec`, from equal arguments with the channels and lengths in range. -/
theorem scores_algebraic : Cert.algebraic_ScoresIdeal_ScoresReferenceIdeal_pre_scores_in_range (hScoresIdeal := Cert.ScoresIdeal.Gen.facts)
    (hScoresReferenceIdeal := Cert.ScoresReferenceIdeal.Gen.facts) (hPre_scores_in_range := Cert.Pre_scores_in_range.Gen.facts) := by
  intro m g m' g' hpre hargs
  have hr := fun c => Cert.ScoresPre.in_range (F := Ideal) _ _ _ _ _ (hpre c)
  refine ⟨fun c => Cert.ScoresSpec.scores (m ((c.tc : Thread _ _).loc Cert.ScoresIdeal.main_arg0)) (m ((c.tc : Thread _ _).loc Cert.ScoresIdeal.main_arg1))
      (m ((c.tc : Thread _ _).loc Cert.ScoresIdeal.main_arg2)) (m ((c.tc : Thread _ _).loc Cert.ScoresIdeal.main_arg3))
      (m ((c.tc : Thread _ _).loc Cert.ScoresIdeal.main_arg4)), ?_, ?_⟩
  · refine (θ_run (Cert.ScoresIdeal.defs (F := Ideal)) _ _).mono (fun r h c => ?_)
      (Cert.ScoresIdealRun.run_blocks (F := Ideal) m g (Cert.ScoresIdeal.Gen.ok_all _))
    obtain ⟨h6, hk⟩ := h c
    exact ⟨h6.trans (Cert.ScoresIdealValue.final m _ c (hr c).1 (hr c).2), hk⟩
  · refine (θ_run (Cert.ScoresReferenceIdeal.defs (F := Ideal)) _ _).mono (fun r h c => ?_)
      (Cert.ScoresReferenceIdeal.Value.run (F := Ideal) m' g')
    obtain ⟨h6, hk⟩ := h c
    obtain ⟨a0, a1, a2, a3, a4⟩ := hargs c
    refine ⟨h6.trans ?_, hk⟩
    funext i
    obtain ⟨b, h, t, rfl⟩ : ∃ (b : Fin 3) (h : Fin 40) (t : Fin 65536), i = ix3 b h t := ⟨i 0, i 1, i 2, eq_ix3 i⟩
    refine (Cert.ScoresReferenceValue.res m' c (by rw [a2]; exact (hr c).1) b h t).trans ?_
    rw [a0, a1, a2, a3, a4]
    rfl

/-- The frame of the scores' reference: its run leaves its arguments, and it declares no semaphore. -/
theorem scores_reference_frame (m : (ℓ : Loc Cert.ScoresReferenceIdeal.nD Cert.ScoresReferenceIdeal.τ Cert.ScoresReferenceIdeal.sig) → Buf (Elt Ideal) ℓ)
    (g : Dev Cert.ScoresReferenceIdeal.nD → PrngReg) :
    θ_run (Cert.ScoresReferenceIdeal.defs (F := Ideal)) (onTc (τ := Cert.ScoresReferenceIdeal.τ) (Cert.ScoresReferenceIdeal.main (F := Ideal))) ⟨m, fun _ => 0, g⟩ (fun r => (∀ c : Dev Cert.ScoresReferenceIdeal.nD,
      r.2.mem ((c.tc : Thread Cert.ScoresReferenceIdeal.nD Cert.ScoresReferenceIdeal.τ).loc Cert.ScoresReferenceIdeal.main_arg0) = m ((c.tc : Thread Cert.ScoresReferenceIdeal.nD Cert.ScoresReferenceIdeal.τ).loc Cert.ScoresReferenceIdeal.main_arg0)
      ∧ r.2.mem ((c.tc : Thread Cert.ScoresReferenceIdeal.nD Cert.ScoresReferenceIdeal.τ).loc Cert.ScoresReferenceIdeal.main_arg1) = m ((c.tc : Thread Cert.ScoresReferenceIdeal.nD Cert.ScoresReferenceIdeal.τ).loc Cert.ScoresReferenceIdeal.main_arg1)
      ∧ r.2.mem ((c.tc : Thread Cert.ScoresReferenceIdeal.nD Cert.ScoresReferenceIdeal.τ).loc Cert.ScoresReferenceIdeal.main_arg2) = m ((c.tc : Thread Cert.ScoresReferenceIdeal.nD Cert.ScoresReferenceIdeal.τ).loc Cert.ScoresReferenceIdeal.main_arg2)
      ∧ r.2.mem ((c.tc : Thread Cert.ScoresReferenceIdeal.nD Cert.ScoresReferenceIdeal.τ).loc Cert.ScoresReferenceIdeal.main_arg3) = m ((c.tc : Thread Cert.ScoresReferenceIdeal.nD Cert.ScoresReferenceIdeal.τ).loc Cert.ScoresReferenceIdeal.main_arg3)
      ∧ r.2.mem ((c.tc : Thread Cert.ScoresReferenceIdeal.nD Cert.ScoresReferenceIdeal.τ).loc Cert.ScoresReferenceIdeal.main_arg4) = m ((c.tc : Thread Cert.ScoresReferenceIdeal.nD Cert.ScoresReferenceIdeal.τ).loc Cert.ScoresReferenceIdeal.main_arg4))
      ∧ r.2.sem = fun _ => 0) :=
  (θ_run (Cert.ScoresReferenceIdeal.defs (F := Ideal)) _ _).mono (fun r h => ⟨fun c => (h c).2, sem_eq_zero_of_no_sems rfl _⟩)
    (Cert.ScoresReferenceIdeal.Value.run (F := Ideal) m g)

/-- Every claim. -/
theorem claim : Cert.Claim :=
  ⟨Cert.Attend.Gen.facts, Cert.AttendIdeal.Gen.facts, Cert.AttendReferenceIdeal.Gen.facts,
    Cert.Scores.Gen.facts, Cert.ScoresIdeal.Gen.facts, Cert.ScoresReferenceIdeal.Gen.facts, Cert.Pre_scores_in_range.Gen.facts,
    fun m g _ => Cert.Attend.Gen.frame m g, fun m g _ => Cert.AttendIdeal.Gen.frame m g,
    fun m g _ => Cert.AttendReferenceIdeal.Gen.frame m g,
    fun m g _ => Cert.Scores.Gen.frame m g (Cert.Scores.Gen.ok_all _),
    fun m g _ => Cert.ScoresIdeal.Gen.frame m g (Cert.ScoresIdeal.Gen.ok_all _),
    fun m g _ => Cert.ScoresIdeal.Gen.frame m g (Cert.ScoresIdeal.Gen.ok_all _),
    fun m g _ => scores_reference_frame m g, fun m g _ => scores_reference_frame m g,
    trivial, algebraic, trivial, scores_algebraic⟩

end Cert.Proof

end
